-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16, 128]⟩ ⟨2, ![32, 128]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S16x128 : Shape := ⟨2, ![16, 128]⟩
abbrev S8 : Shape := ⟨1, ![8]⟩
abbrev S_ : Shape := ⟨0, ![]⟩
abbrev S256x1024 : Shape := ⟨2, ![256, 1024]⟩
abbrev S256 : Shape := ⟨1, ![256]⟩
abbrev S2x128 : Shape := ⟨2, ![2, 128]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .bf16⟩
  | .hbm, ⟨1, _⟩ => ⟨S16x128, .f32⟩
  | .local _ .vmem, ⟨0, _⟩ => ⟨S2048x1024, .bf16⟩
  | .local _ .vmem, ⟨1, _⟩ => ⟨S16x128, .f32⟩
  | .local _ .vmem, ⟨2, _⟩ => ⟨S16x128, .f32⟩
  | .local _ .vmem, ⟨3, _⟩ => ⟨S16x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_13 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_12 : BitVec 32 := 2#32
  let v20 : BitVec 32 := Scalar.muli v2 c2_i32_12
  let v21 : BitVec 32 := Scalar.addi c0_i32_13 v20
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_14 : BitVec 32 := 1#32
  let v22 : BitVec 32 := Scalar.muli v6 c1_i32_14
  let v23 : BitVec 32 := Scalar.addi v21 v22
  v23.toNat
def k0_dev3 (d0 : Dev nD) : Nat :=
  let c0_i32_25 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_24 : BitVec 32 := 2#32
  let v38 : BitVec 32 := Scalar.muli v2 c2_i32_24
  let v39 : BitVec 32 := Scalar.addi c0_i32_25 v38
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_26 : BitVec 32 := 1#32
  let v40 : BitVec 32 := Scalar.muli v6 c1_i32_26
  let v41 : BitVec 32 := Scalar.addi v39 v40
  v41.toNat
def k0_dev4 (d0 : Dev nD) : Nat :=
  let c0_i32_37 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_36 : BitVec 32 := 2#32
  let v56 : BitVec 32 := Scalar.muli v2 c2_i32_36
  let v57 : BitVec 32 := Scalar.addi c0_i32_37 v56
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_38 : BitVec 32 := 1#32
  let v58 : BitVec 32 := Scalar.muli v6 c1_i32_38
  let v59 : BitVec 32 := Scalar.addi v57 v58
  v59.toNat
def k0_dev5 (d0 : Dev nD) : Nat :=
  let c0_i32_47 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_46 : BitVec 32 := 2#32
  let v74 : BitVec 32 := Scalar.muli v2 c2_i32_46
  let v75 : BitVec 32 := Scalar.addi c0_i32_47 v74
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_48 : BitVec 32 := 1#32
  let v76 : BitVec 32 := Scalar.muli v6 c1_i32_48
  let v77 : BitVec 32 := Scalar.addi v75 v76
  v77.toNat
def k0_dev6 (d0 : Dev nD) : Nat :=
  let c0_i32_58 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_57 : BitVec 32 := 2#32
  let v92 : BitVec 32 := Scalar.muli v2 c2_i32_57
  let v93 : BitVec 32 := Scalar.addi c0_i32_58 v92
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_59 : BitVec 32 := 1#32
  let v94 : BitVec 32 := Scalar.muli v6 c1_i32_59
  let v95 : BitVec 32 := Scalar.addi v93 v94
  v95.toNat
def k0_dev7 (d0 : Dev nD) : Nat :=
  let c0_i32_68 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_67 : BitVec 32 := 2#32
  let v110 : BitVec 32 := Scalar.muli v2 c2_i32_67
  let v111 : BitVec 32 := Scalar.addi c0_i32_68 v110
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_69 : BitVec 32 := 1#32
  let v112 : BitVec 32 := Scalar.muli v6 c1_i32_69
  let v113 : BitVec 32 := Scalar.addi v111 v112
  v113.toNat
def k0_dev8 (d0 : Dev nD) : Nat :=
  let c0_i32_79 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_78 : BitVec 32 := 2#32
  let v128 : BitVec 32 := Scalar.muli v2 c2_i32_78
  let v129 : BitVec 32 := Scalar.addi c0_i32_79 v128
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_80 : BitVec 32 := 1#32
  let v130 : BitVec 32 := Scalar.muli v6 c1_i32_80
  let v131 : BitVec 32 := Scalar.addi v129 v130
  v131.toNat
def k0_dev9 (d0 : Dev nD) : Nat :=
  let c0_i32_89 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_88 : BitVec 32 := 2#32
  let v146 : BitVec 32 := Scalar.muli v2 c2_i32_88
  let v147 : BitVec 32 := Scalar.addi c0_i32_89 v146
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_90 : BitVec 32 := 1#32
  let v148 : BitVec 32 := Scalar.muli v6 c1_i32_90
  let v149 : BitVec 32 := Scalar.addi v147 v148
  v149.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S32x128 : Shape := ⟨2, ![32, 128]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S_, .f32⟩
  | .hbm, ⟨3, _⟩ => ⟨S4096, .f32⟩
  | .hbm, ⟨4, _⟩ => ⟨S4096x1, .f32⟩
  | .hbm, ⟨5, _⟩ => ⟨S4096x1, .bf16⟩
  | .hbm, ⟨6, _⟩ => ⟨S4096x1, .f32⟩
  | .hbm, ⟨7, _⟩ => ⟨S32x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proof.Cells.lean ====
/-
# The row sums across a row of the mesh: buffers, semaphores and the schedule of payments

A device holds a 2048 × 1024 block of the array. It sums the rows of its block in eight chunks of 256 rows; the
256 sums of chunk `k` go into rows `2 k` and `2 k + 1` of its buffer of partial sums (a SLAB), and that slab is copied
to the other device of the same mesh row as soon as it is written. When the eight slabs of the other device have come,
the two buffers are added.

Every semaphore is used for one round, paid by one party:

* the barrier semaphore of device `c` by the signal of its peer, which lends `c` the peer's landing buffer;
* the send semaphore `k` of `c` by the transfer of slab `k` when it has been read, which gives the slab back;
* the receive semaphore `k` of `c` by the peer's transfer of slab `k`, which gives `c` slab `k` of its landing buffer
  holding the peer's partial sums.

Everything is stated once for a chunk `k : Fin 8`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RowSums

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state: one copy of the rounds for the staging copies, one for the kernel's own semaphores -/

abbrev Ghost : Type := UR sig nD τ × UR sig nD τ

local notation "𝕄" => MT nD τ sig Unit (Elt F) ℕ Ghost ℕ

abbrev stageE : Emb (UR sig nD τ) (MT nD τ sig Unit (Elt F) ℕ Ghost ℕ) := embL
abbrev ownE : Emb (UR sig nD τ) (MT nD τ sig Unit (Elt F) ℕ Ghost ℕ) := embR

variable (m : (ℓ : Loc nD τ sig) → Buf (Elt F) ℓ) (ρ : Dev nD → PrngReg)

/-- Where a run starts: any memory, every counter at zero. -/
def start₀ : MemSt nD τ sig (Elt F) := ⟨m, fun _ => 0, ρ⟩

/-! ## The other device of a mesh row -/

set_option backward.proofsInPublic true in
/-- Device `c` sits at column `c % 2` of row `c / 2`; its peer at the other column of that row. -/
def peer (c : Dev nD) : Dev nD :=
  ⟨2 * (c.val / 2) + (1 - c.val % 2), by have h : c.val < 4 := c.isLt; show _ < 4; omega⟩

theorem peer_peer (c : Dev nD) : peer (peer c) = c := by revert c; decide

/-- The exchange of the two devices of every row, as a permutation. -/
def swap : Dev nD ≃ Dev nD := ⟨peer, peer, peer_peer, peer_peer⟩

theorem peer_of_val (c : Dev nD) {n : ℕ} (hn : n < nD) (h : n = (2 * (c.val / 2) + 1) - c.val % 2) :
    (⟨n, hn⟩ : Dev nD) = peer c :=
  Fin.ext (by show n = 2 * (c.val / 2) + (1 - c.val % 2); omega)

/-! ## Buffers and slabs -/

abbrev xM : Memref sig .tc .vmem S2048x1024 .bf16 := Memref.whole cc0_stg0_0
abbrev oM : Memref sig .tc .vmem S16x128 .f32 := Memref.whole cc0_stg1_0
/-- The partial sums. -/
abbrev pM : Memref sig .tc .vmem S16x128 .f32 := Memref.whole cc0_scratch0
/-- The landing buffer of the peer's partial sums. -/
abbrev lM : Memref sig .tc .vmem S16x128 .f32 := Memref.whole cc0_scratch1

theorem inb_chunk (k : Fin 8) : ∀ a, (![256 * k.val, 0] : Fin 2 → Nat) a + S256x1024.size a ≤ S2048x1024.size a := by
  revert k; decide
theorem inb_slab (k : Fin 8) : ∀ a, (![2 * k.val, 0] : Fin 2 → Nat) a + S2x128.size a ≤ S16x128.size a := by
  revert k; decide
theorem inb_sem (k : Fin 8) : ∀ a, (![k.val] : Fin 1 → Nat) a + S1.size a ≤ S8.size a := by
  revert k; decide

/-- Rows `256 k` to `256 k + 255` of the block. -/
abbrev chunk (k : Fin 8) : Rect S2048x1024 := Rect.unit (s := S2048x1024) ![256 * k.val, 0] S256x1024.size (inb_chunk k)
/-- Rows `2 k` and `2 k + 1` of a buffer of sums. -/
abbrev slab (k : Fin 8) : Rect S16x128 := Rect.unit (s := S16x128) ![2 * k.val, 0] S2x128.size (inb_slab k)

abbrev pSlab (k : Fin 8) : Memref sig .tc .vmem S2x128 .f32 := pM.slice (slab k) (fun _ => rfl)
abbrev lSlab (k : Fin 8) : Memref sig .tc .vmem S2x128 .f32 := lM.slice (slab k) (fun _ => rfl)

/-! ## Semaphores and cells -/

abbrev barS : Sem sig := (SemArray.scalar (sig.barrier 0 rfl) : Sems sig S_).sem
/-- Send semaphore `k`, as the program spells it, -/
abbrev sndS (k : Fin 8) : DmaSem sig :=
  ((cc0_scratch2.slice (Rect.unit (s := S8) ![k.val] S1.size (inb_sem k))).squeeze S_ squeezes_S1_S_ : DmaSems sig S_).sem
/-- and receive semaphore `k`. -/
abbrev rcvS (k : Fin 8) : DmaSem sig :=
  ((cc0_scratch3.slice (Rect.unit (s := S8) ![k.val] S1.size (inb_sem k))).squeeze S_ squeezes_S1_S_ : DmaSems sig S_).sem

theorem sndS_val (k : Fin 8) : (sndS k).val = 2 + k.val := by revert k; decide
theorem rcvS_val (k : Fin 8) : (rcvS k).val = 10 + k.val := by revert k; decide

abbrev barCell (c : Dev nD) : GSem nD τ sig := ((c : Thread nD τ), .reg barS)
abbrev sndCell (c : Dev nD) (k : Fin 8) : GSem nD τ sig := ((c : Thread nD τ), .dma (sndS k))
abbrev rcvCell (c : Dev nD) (k : Fin 8) : GSem nD τ sig := ((c : Thread nD τ), .dma (rcvS k))

/-- The kernel's own semaphores: send `k` on the left, receive `k` on the right; -/
abbrev ownSem : Fin 8 ⊕ Fin 8 → SemLoc sig := Sum.elim (fun k => .dma (sndS k)) (fun k => .dma (rcvS k))
/-- with the barrier semaphore before them, all that carry a schedule. -/
abbrev anySem : Unit ⊕ (Fin 8 ⊕ Fin 8) → SemLoc sig := Sum.elim (fun _ => .reg barS) ownSem
abbrev Cell : Type := Dev nD × (Unit ⊕ (Fin 8 ⊕ Fin 8))
abbrev cellAt (x : Cell) : GSem nD τ sig := ((x.1 : Thread nD τ), anySem x.2)
abbrev barIx (c : Dev nD) : Cell := (c, .inl ())
abbrev sndIx (c : Dev nD) (k : Fin 8) : Cell := (c, .inr (.inl k))
abbrev rcvIx (c : Dev nD) (k : Fin 8) : Cell := (c, .inr (.inr k))

/-- What a semaphore is for. -/
inductive Role where
  | bar
  | snd (k : Fin 8)
  | rcv (k : Fin 8)
  | other
deriving DecidableEq

set_option backward.proofsInPublic true in
def roleOf : SemLoc sig → Role
  | .reg _ => .bar
  | .dma q =>
    if h : 2 ≤ q.val ∧ q.val < 10 then .snd ⟨q.val - 2, by omega⟩
    else if h : 10 ≤ q.val ∧ q.val < 18 then .rcv ⟨q.val - 10, by omega⟩
    else .other

theorem role_bar : roleOf (.reg barS) = .bar := rfl
theorem role_snd (k : Fin 8) : roleOf (.dma (sndS k)) = .snd k := by revert k; decide
theorem role_rcv (k : Fin 8) : roleOf (.dma (rcvS k)) = .rcv k := by revert k; decide

theorem anySem_injective : Function.Injective anySem := by decide
theorem ownSem_facts : Pipeline.OwnSemFacts cfg0.spec ownSem := by decide

theorem cellAt_injective : Function.Injective cellAt := by
  rintro ⟨c, x⟩ ⟨c', x'⟩ h
  have h1 : c = c' := by have := congrArg (fun g : GSem nD τ sig => g.1.1) h; exact this
  have h2 : x = x' := anySem_injective (congrArg Prod.snd h)
  rw [h1, h2]

/-- What a transfer of one slab pays. -/
abbrev slabCredit : ℕ := (lSlab 0).view.dmaCredit
theorem slabCredit_pos : 0 < slabCredit := View.dmaCredit_pos _ (by decide)

/-! ## Contents -/

/-- Device `c`'s block in its staging buffer. -/
def xBlock (c : Dev nD) : (cc0_stg0_0 : Ref sig .tc).ty.Contents (Elt F) :=
  (win0_0.blk (0 : Fin 1)).view.read (Elt F) ((start₀ m ρ).mem ((c : Thread nD τ).loc main_arg0))

/-- Chunk `k` of device `c`'s block. -/
def rowsOf (c : Dev nD) (k : Fin 8) : Vec F S256x1024 .bf16 := xM.view.readAt (Elt F) (chunk k).toLoadRect (xBlock m ρ c)

/-- The place of a row of sums inside its slab. -/
def inSlab (i : S16x128.Idx) : S2x128.Idx :=
  fun | 0 => ⟨(i 0).val % 2, Nat.mod_lt _ (by decide)⟩ | 1 => ⟨(i 1).val, (i 1).isLt⟩

set_option backward.proofsInPublic true in
def slabOf (i : S16x128.Idx) : Fin 8 := ⟨(i 0).val / 2, by have h : (i 0).val < 16 := (i 0).isLt; omega⟩

/-- Device `c`'s partial sums: those of chunk `k` in slab `k`. -/
def sums (c : Dev nD) : S16x128.Idx → Elt F .f32 := fun i => k0_pay2 (rowsOf m ρ c (slabOf i)) (inSlab i)

omit [FloatOps F] in
theorem slabOf_emb (k : Fin 8) (x : (slab k).shape.Idx) : slabOf ((slab k).emb x) = k := by
  refine Fin.ext ?_
  have h0 : (((slab k).emb x) 0 : ℕ) = 2 * k.val + 1 * (x 0).val := Rect.emb_apply _ _ _
  have hx : (x 0).val < 2 := (x 0).isLt
  show (((slab k).emb x) 0 : ℕ) / 2 = k.val
  omega

omit [FloatOps F] in
theorem inSlab_emb (k : Fin 8) (x : (slab k).shape.Idx) : inSlab ((slab k).emb x) = x := by
  have h0 : (((slab k).emb x) 0 : ℕ) = 2 * k.val + 1 * (x 0).val := Rect.emb_apply _ _ _
  have h1 : (((slab k).emb x) 1 : ℕ) = 0 + 1 * (x 1).val := Rect.emb_apply _ _ _
  have hx : (x 0).val < 2 := (x 0).isLt
  funext a
  match a with
  | 0 => exact Fin.ext (by show (((slab k).emb x) 0 : ℕ) % 2 = (x 0).val; omega)
  | 1 => exact Fin.ext (by show (((slab k).emb x) 1 : ℕ) = (x 1).val; omega)

/-- The partial sums at an element of slab `k`. -/
theorem sums_emb (c : Dev nD) (k : Fin 8) (x : (slab k).shape.Idx) :
    sums m ρ c ((slab k).emb x) = k0_pay2 (rowsOf m ρ c k) x := by
  unfold sums; rw [slabOf_emb, inSlab_emb]

/-! ### A buffer of sums is its eight slabs -/

omit [FloatOps F] in
theorem slabs_disjoint (k k' : Fin 8) (h : k ≠ k') : Disjoint (slab k).set (slab k').set := by
  rw [Finset.disjoint_left]
  intro i hi hi'
  rw [← Rect.map_emb_univ] at hi hi'
  obtain ⟨x, -, rfl⟩ := Finset.mem_map.mp hi
  obtain ⟨x', -, hx'⟩ := Finset.mem_map.mp hi'
  exact h (by rw [← slabOf_emb k x, ← slabOf_emb k' x', hx'])

omit [FloatOps F] in
theorem slabs_cover : Finset.univ.biUnion (fun k : Fin 8 => (slab k).set) = Finset.univ := by
  refine Finset.eq_univ_iff_forall.mpr fun i => Finset.mem_biUnion.mpr ⟨slabOf i, Finset.mem_univ _, ?_⟩
  rw [← Rect.map_emb_univ]
  refine Finset.mem_map.mpr ⟨inSlab i, Finset.mem_univ _, ?_⟩
  funext a
  have h0 : (((slab (slabOf i)).emb (inSlab i)) 0 : ℕ) = 2 * ((i 0).val / 2) + 1 * ((i 0).val % 2) := Rect.emb_apply _ _ _
  have h1 : (((slab (slabOf i)).emb (inSlab i)) 1 : ℕ) = 0 + 1 * (i 1).val := Rect.emb_apply _ _ _
  match a with
  | 0 => exact Fin.ext (by omega)
  | 1 => exact Fin.ext (by omega)

/-- Slab `k` of the partial sums of device `c`, at contents `f`. -/
def pHeld (c : Dev nD) (k : Fin 8) (f : Buf (Elt F) ((c : Thread nD τ).loc cc0_scratch0)) : sProp 𝕄 :=
  (pSlab k).view.loc (c : Thread nD τ) ↦[(pSlab k).view.set]{fullShare} f
/-- Slab `k` of the landing buffer of device `c`, at contents `f`. -/
def lHeld (c : Dev nD) (k : Fin 8) (f : Buf (Elt F) ((c : Thread nD τ).loc cc0_scratch1)) : sProp 𝕄 :=
  (lSlab k).view.loc (c : Thread nD τ) ↦[(lSlab k).view.set]{fullShare} f

omit [FloatOps F] in
instance pHeld_storable (c : Dev nD) (k : Fin 8) (f) : BI.Storable (upEmb : UEmb _ 𝕄) (pHeld (F := F) c k f) := by
  unfold pHeld; infer_instance
omit [FloatOps F] in
instance lHeld_storable (c : Dev nD) (k : Fin 8) (f) : BI.Storable (upEmb : UEmb _ 𝕄) (lHeld (F := F) c k f) := by
  unfold lHeld; infer_instance

omit [FloatOps F] in
theorem pHeld_all (c : Dev nD) (f : Buf (Elt F) ((c : Thread nD τ).loc cc0_scratch0)) :
    (((c : Thread nD τ).loc cc0_scratch0) ↦{fullShare} f : sProp 𝕄) = bigSep Finset.univ fun k => pHeld c k f := by
  unfold pHeld
  have hc : Finset.univ.biUnion (fun k : Fin 8 => (pSlab k).view.set) = Finset.univ :=
    (Finset.biUnion_congr rfl fun k _ => View.set_slice_whole cc0_scratch0 (slab k)).trans slabs_cover
  have hd : ∀ k ∈ (Finset.univ : Finset (Fin 8)), ∀ k' ∈ (Finset.univ : Finset (Fin 8)), k ≠ k' →
      Disjoint (pSlab k).view.set (pSlab k').view.set := fun k _ k' _ h => by
    rw [show (pSlab k).view.set = (slab k).set from View.set_slice_whole cc0_scratch0 _,
      show (pSlab k').view.set = (slab k').set from View.set_slice_whole cc0_scratch0 _]
    exact slabs_disjoint k k' h
  have hp := pointsTo_biUnion (Ix := Unit) (Val := Elt F) (Name := ℕ) (U := Ghost) (Lvl := ℕ) (ℓ := (c : Thread nD τ).loc cc0_scratch0)
    (q := fullShare) (f := f) Finset.univ (fun k : Fin 8 => (pSlab k).view.set) hd
  rw [hc] at hp
  exact hp
omit [FloatOps F] in
theorem lHeld_all (c : Dev nD) (f : Buf (Elt F) ((c : Thread nD τ).loc cc0_scratch1)) :
    (((c : Thread nD τ).loc cc0_scratch1) ↦{fullShare} f : sProp 𝕄) = bigSep Finset.univ fun k => lHeld c k f := by
  unfold lHeld
  have hc : Finset.univ.biUnion (fun k : Fin 8 => (lSlab k).view.set) = Finset.univ :=
    (Finset.biUnion_congr rfl fun k _ => View.set_slice_whole cc0_scratch1 (slab k)).trans slabs_cover
  have hd : ∀ k ∈ (Finset.univ : Finset (Fin 8)), ∀ k' ∈ (Finset.univ : Finset (Fin 8)), k ≠ k' →
      Disjoint (lSlab k).view.set (lSlab k').view.set := fun k _ k' _ h => by
    rw [show (lSlab k).view.set = (slab k).set from View.set_slice_whole cc0_scratch1 _,
      show (lSlab k').view.set = (slab k').set from View.set_slice_whole cc0_scratch1 _]
    exact slabs_disjoint k k' h
  have hp := pointsTo_biUnion (Ix := Unit) (Val := Elt F) (Name := ℕ) (U := Ghost) (Lvl := ℕ) (ℓ := (c : Thread nD τ).loc cc0_scratch1)
    (q := fullShare) (f := f) Finset.univ (fun k : Fin 8 => (lSlab k).view.set) hd
  rw [hc] at hp
  exact hp

/-- The sums of chunk `k` stored through slab `k` make the slab hold device `c`'s partial sums. -/
theorem pHeld_stored (c : Dev nD) (k : Fin 8) (f : Buf (Elt F) ((c : Thread nD τ).loc cc0_scratch0)) :
    pHeld c k ((pM.access (slab k)).write (Elt F) f (k0_pay2 (rowsOf m ρ c k)) Finset.univ) = pHeld c k (sums m ρ c) := by
  unfold pHeld
  refine pointsTo_congr fun i hi => ?_
  obtain ⟨x, -, rfl⟩ := Finset.mem_map.mp hi
  rw [View.write_emb_of_mem _ _ (Finset.mem_univ _)]
  exact (sums_emb m ρ c k x).symm

/-- Device `c`'s slab `k` written onto the same slab of another device's landing buffer makes that hold `c`'s sums. -/
theorem lHeld_landed (c n : Dev nD) (k : Fin 8) (fd : Buf (Elt F) ((n : Thread nD τ).loc cc0_scratch1)) :
    lHeld n k ((lSlab k).view.write (Elt F) fd ((pSlab k).view.read (Elt F) (sums m ρ c)) Finset.univ) = lHeld n k (sums m ρ c) := by
  unfold lHeld
  refine pointsTo_congr fun i hi => ?_
  obtain ⟨x, -, rfl⟩ := Finset.mem_map.mp hi
  rw [View.write_emb_of_mem _ _ (Finset.mem_univ _)]
  rfl

/-! ## The schedule -/

/-- The peer's signal lends its landing buffer, any contents. -/
def barPay (c : Dev nD) : sProp 𝕄 := iprop(∃ f, bigSep Finset.univ fun k => lHeld (peer c) k f)
def sndPay (c : Dev nD) (k : Fin 8) : sProp 𝕄 := pHeld c k (sums m ρ c)
def rcvPay (c : Dev nD) (k : Fin 8) : sProp 𝕄 := lHeld c k (sums m ρ (peer c))

/-- What a cell pays its device, by the role of its semaphore. -/
def payFor (c : Dev nD) : Role → sProp 𝕄
  | .bar => barPay c
  | .snd k => sndPay m ρ c k
  | .rcv k => rcvPay m ρ c k
  | .other => iprop(emp)

def amountFor : Role → ℕ
  | .bar => 1
  | _ => slabCredit

def plan : Rounds.Schedule (GSem nD τ sig) Unit 𝕄 where
  duties g r := if r = 0 ∧ g.1.2 = .tc ∧ roleOf g.2 ≠ .other then {()} else ∅
  unitless _ := False
  amount g _ _ := amountFor (roleOf g.2)
  payload g _ _ := payFor m ρ g.1.1 (roleOf g.2)
  amount_pos g _ _ _ := by
    cases roleOf g.2
    · exact Nat.one_pos
    all_goals exact slabCredit_pos

instance plan_storable (g : GSem nD τ sig) (r : ℕ) (d : Unit) :
    BI.Storable (upEmb : UEmb _ 𝕄) ((plan (F := F) m ρ).payload g r d) := by
  show BI.Storable upEmb (payFor m ρ g.1.1 (roleOf g.2))
  cases roleOf g.2 with
  | bar => show BI.Storable upEmb (barPay g.1.1); unfold barPay; infer_instance
  | snd k => show BI.Storable upEmb (sndPay m ρ g.1.1 k); unfold sndPay; infer_instance
  | rcv k => show BI.Storable upEmb (rcvPay m ρ g.1.1 k); unfold rcvPay; infer_instance
  | other => show BI.Storable upEmb iprop(emp); infer_instance

/-- A cell with a role has one duty in round 0, -/
theorem plan_duties (c : Dev nD) {sm : SemLoc sig} (h : roleOf sm ≠ .other) :
    (plan (F := F) m ρ).duties ((c : Thread nD τ), sm) 0 = {()} := if_pos ⟨rfl, rfl, h⟩
/-- none later, -/
theorem plan_later (g : GSem nD τ sig) : ∀ r, 1 ≤ r → (plan (F := F) m ρ).duties g r = ∅ :=
  fun r hr => if_neg fun h => by omega
/-- expects that duty's amount -/
theorem plan_expect (c : Dev nD) {sm : SemLoc sig} (h : roleOf sm ≠ .other) :
    (plan (F := F) m ρ).expect ((c : Thread nD τ), sm) 0 = amountFor (roleOf sm) := by
  unfold Schedule.expect Schedule.amountOf; rw [plan_duties m ρ c h, Finset.sum_singleton]; rfl
/-- and gives its payload. -/
theorem plan_rest (c : Dev nD) {sm : SemLoc sig} (h : roleOf sm ≠ .other) :
    bigSep ((plan (F := F) m ρ).duties ((c : Thread nD τ), sm) 0 \ ∅) (fun d => (plan (F := F) m ρ).payload ((c : Thread nD τ), sm) 0 d)
      = payFor m ρ c (roleOf sm) := by
  rw [Finset.sdiff_empty, plan_duties m ρ c h, bigSep_singleton]; rfl

theorem named_bar : roleOf (.reg barS) ≠ .other := by decide
theorem named_snd (k : Fin 8) : roleOf (.dma (sndS k)) ≠ .other := by rw [role_snd]; exact fun h => by cases h
theorem named_rcv (k : Fin 8) : roleOf (.dma (rcvS k)) ≠ .other := by rw [role_rcv]; exact fun h => by cases h

/-! ## What a device owes; the levels -/

/-- Device `c` still owes its peer the slabs from `k` on. -/
def owedFrom (c : Dev nD) (n : ℕ) : CellTallies nD τ sig Unit :=
  ∑ k : Fin 8, if n ≤ k.val then tallyAt (rcvCell (peer c) k) () slabCredit else 0

/-- At launch it owes all eight and one signal. -/
def owed₀ (c : Dev nD) : CellTallies nD τ sig Unit := owedFrom c 0 + tallyAt (barCell (peer c)) () 1

/-- Slab `k` is the first of those from `k` on. -/
theorem owedFrom_next (c : Dev nD) (k : Fin 8) :
    owedFrom c k.val = owedFrom c (k.val + 1) + tallyAt (rcvCell (peer c) k) () slabCredit := by
  unfold owedFrom
  rw [← Finset.sum_erase_add _ _ (Finset.mem_univ k), if_pos le_rfl]
  congr 1
  rw [← Finset.sum_erase_add (Finset.univ : Finset (Fin 8)) _ (Finset.mem_univ k), if_neg (by omega), add_zero]
  refine Finset.sum_congr rfl fun j hj => ?_
  have hne : j.val ≠ k.val := fun h => (Finset.mem_erase.mp hj).1 (Fin.ext h)
  by_cases h : k.val ≤ j.val
  · rw [if_pos h, if_pos (by omega)]
  · rw [if_neg h, if_neg (by omega)]

theorem owedFrom_done (c : Dev nD) : owedFrom c 8 = 0 := by
  unfold owedFrom
  exact Finset.sum_eq_zero fun k _ => if_neg (by omega)

/-- Only receive cells of the peer are owed slabs. -/
theorem owedFrom_pos {c : Dev nD} {n : ℕ} {g : GSem nD τ sig} {u : Unit} (h : 0 < owedFrom c n g u) :
    ∃ k, g = rcvCell (peer c) k := by
  by_contra hn
  rw [not_exists] at hn
  have h0 : owedFrom c n g u = 0 := by
    unfold owedFrom
    rw [Finset.sum_apply, Finsupp.finsetSum_apply]
    refine Finset.sum_eq_zero fun k _ => ?_
    by_cases hk : n ≤ k.val
    · rw [if_pos hk, tallyAt_apply, if_neg fun h' => hn k h'.1]
    · rw [if_neg hk]; rfl
  omega

theorem owed₀_pos {c : Dev nD} {g : GSem nD τ sig} {u : Unit} (h : 0 < owed₀ c g u) :
    (∃ k, g = rcvCell (peer c) k) ∨ g = barCell (peer c) := by
  unfold owed₀ at h
  rw [Pi.add_apply, Finsupp.add_apply, tallyAt_apply] at h
  by_cases hb : g = barCell (peer c)
  · exact .inr hb
  · rw [if_neg fun h' => hb h'.1, add_zero] at h
    exact .inl (owedFrom_pos h)

/-- Every TensorCore cell has a level: -/
def lvDom (g : GSem nD τ sig) : Finset Unit := if g.1.2 = .tc then {()} else ∅
/-- the barrier below the receive semaphores, the staging copies and the send semaphores below both. -/
def lvOf (g : GSem nD τ sig) (_ : Unit) : ℕ :=
  match roleOf g.2 with
  | .bar => 1
  | .rcv _ => 2
  | _ => 0

theorem lvDom_ne (g : GSem nD τ sig) (h : g.1.2 ≠ .tc) : lvDom g = ∅ := if_neg h
theorem lvDom_tc (c : Dev nD) (sm : SemLoc sig) : lvDom ((c : Thread nD τ), sm) = {()} := if_pos rfl

theorem lv_bar (c : Dev nD) : lvOf (barCell c) () = 1 := rfl
theorem lv_rcv (c : Dev nD) (k : Fin 8) : lvOf (rcvCell c k) () = 2 := by
  show (match roleOf (.dma (rcvS k)) with | .bar => 1 | .rcv _ => 2 | _ => 0 : ℕ) = 2
  rw [role_rcv]

omit [FloatOps F] in
/-- A staging copy may be waited for whatever the device owes at launch, or when it owes nothing. -/
theorem mayWait_stage (c : Dev nD) (q : DmaSem sig) (hq : roleOf (.dma q) = .other) (O : CellTallies nD τ sig Unit)
    (hO : O = owed₀ c ∨ O = 0) : (levAts lvDom lvOf : sProp 𝕄) ⊢ MayWait (c : Thread nD τ) (.dma q) () O := by
  rcases hO with rfl | rfl
  · refine MayOwe.of_cut (L := lvDom) (lev := lvOf) 0 (fun p hp => ?_) (fun g u hg => ?_) (fun p hp => ?_) (fun g u hg => ?_)
    · rw [Finset.mem_singleton.mp hp, lvDom_tc]; exact Finset.mem_singleton_self _
    · rcases owed₀_pos hg with ⟨k, rfl⟩ | rfl <;> exact Finset.mem_singleton_self _
    · rw [Finset.mem_singleton.mp hp]; dsimp only [lvOf]; rw [hq]
    · rcases owed₀_pos hg with ⟨k, rfl⟩ | rfl
      · rw [show u = () from rfl, lv_rcv]; decide
      · rw [show u = () from rfl, lv_bar]; decide
  · rw [MayWait_zero]; iintro -; iempintro

omit [FloatOps F] in
/-- The barrier may be waited for while only slabs are owed. -/
theorem mayWait_bar (c : Dev nD) (n : ℕ) :
    (levAts lvDom lvOf : sProp 𝕄) ⊢ MayWait (c : Thread nD τ) (.reg barS) () (owedFrom c n) := by
  refine MayOwe.of_cut (L := lvDom) (lev := lvOf) 1 (fun p hp => ?_) (fun g u hg => ?_) (fun p hp => ?_) (fun g u hg => ?_)
  · rw [Finset.mem_singleton.mp hp, lvDom_tc]; exact Finset.mem_singleton_self _
  · obtain ⟨k, rfl⟩ := owedFrom_pos hg; exact Finset.mem_singleton_self _
  · rw [Finset.mem_singleton.mp hp]; exact le_of_eq rfl
  · obtain ⟨k, rfl⟩ := owedFrom_pos hg
    rw [show u = () from rfl, lv_rcv]; decide

end Cert.RowSums

end
-- ==== Proof.Body.lean ====
/-
# One device's program, run through

The three steps a chunk takes — sum it into its slab, ship the slab to the peer, collect the slab read and the slab
landed — are stated once for a chunk `k`; the body is those steps in the order of the program, with the signal and the
wait on the barrier before the first shipment and the addition at the end.
-/
module

public import proofs.«01_k».proof.Proof.Cells

@[expose] public section

noncomputable section

namespace Cert.RowSums

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (m : (ℓ : Loc nD τ sig) → Buf (Elt F) ℓ) (ρ : Dev nD → PrngReg) (K : Cell → ℕ)

abbrev noVar : Variants := Variants.none

/-! ## The program, step by step

Each step takes the rest of the program. -/

abbrev Steps (F : FTy → Type) : Type 1 := Prog (TpuEff nD τ sig (Elt F) Λ₀ .tc) PUnit

/-- The chunk is loaded, reduced and stored in its slab. -/
def sumThen (k : Fin 8) (rest : Steps F) : Steps F :=
  .op (.load xM (chunk k).toLoadRect (View.loadsAt_vmem h_S256x1024)) fun v =>
  .op (.load pM (slab k).toLoadRect (View.loadsAt_vmem h_S2x128)) fun _ =>
  .op (.store pM (slab k) (k0_pay2 v) Finset.univ (View.stores_vmem_bits_univ h_S2x128 rfl) (.inl rfl)) fun _ => rest

/-- The slab goes to the same slab of device `n`'s landing buffer. -/
def shipThen (k : Fin 8) (n : Dev nD) (rest : Steps F) : Steps F :=
  .op (.enqueueDma (pSlab k) (.remote (Dev.tc n) (lSlab k) (.dma (sndS k))) (.dma (rcvS k)) (View.wordExact_bits rfl) (View.wordExact_bits rfl)
    ⟨⟨rfl, Or.inl rfl⟩, trivial⟩) fun _ => rest

/-- The wait for the slab to have been read, then for the peer's slab to have landed. -/
def collectThen (k : Fin 8) (rest : Steps F) : Steps F :=
  .op (.waitDma2 (sndS k) (lSlab k) (pSlab k) (View.wordExact_bits rfl) (View.wordExact_bits rfl)) fun _ =>
  .op (.waitDma2 (rcvS k) (pSlab k) (lSlab k) (View.wordExact_bits rfl) (View.wordExact_bits rfl)) fun _ => rest

/-- The signal to device `n`, -/
def lendThen (n : Dev nD) (rest : Steps F) : Steps F := .op (.semSignal (n, .tc) barS (1#32).toInt) fun _ => rest
/-- and the wait for the signal from the peer. -/
def borrowThen (rest : Steps F) : Steps F := .op (.semWait barS (1#32).toInt) fun _ => rest

abbrev full : Rect S16x128 := Rect.unit (s := S16x128) ![0, 0] S16x128.size inb_S16x128_S16x128_0_0

/-- The two buffers of sums are added into the result block. -/
def addThen (rest : Steps F) : Steps F :=
  .op (.load pM full.toLoadRect (View.loadsAt_vmem h_S16x128)) fun a =>
  .op (.load lM full.toLoadRect (View.loadsAt_vmem h_S16x128)) fun b =>
  .op (.load oM full.toLoadRect (View.loadsAt_vmem h_S16x128)) fun _ =>
  .op (.store oM full (k0_pay1 a b) Finset.univ (View.stores_vmem_bits_univ h_S16x128 rfl) (.inl rfl)) fun _ => rest

/-- The steps in order, the addressed device of each signal and transfer as the program computes it on device `d`. -/
def ordered (d : Dev nD) : Steps F :=
  lendThen ⟨k0_dev1 d, k0_dev1_lt d⟩ <| sumThen 0 <| borrowThen <| shipThen 0 ⟨k0_dev2 d, k0_dev2_lt d⟩ <|
  sumThen 1 <| shipThen 1 ⟨k0_dev3 d, k0_dev3_lt d⟩ <| sumThen 2 <| shipThen 2 ⟨k0_dev4 d, k0_dev4_lt d⟩ <|
  sumThen 3 <| shipThen 3 ⟨k0_dev5 d, k0_dev5_lt d⟩ <| sumThen 4 <| shipThen 4 ⟨k0_dev6 d, k0_dev6_lt d⟩ <|
  sumThen 5 <| shipThen 5 ⟨k0_dev7 d, k0_dev7_lt d⟩ <| sumThen 6 <| shipThen 6 ⟨k0_dev8 d, k0_dev8_lt d⟩ <|
  sumThen 7 <| shipThen 7 ⟨k0_dev9 d, k0_dev9_lt d⟩ <|
  collectThen 0 <| collectThen 1 <| collectThen 2 <| collectThen 3 <| collectThen 4 <| collectThen 5 <| collectThen 6 <| collectThen 7 <|
  addThen <| .ret ⟨⟩

/-- The kernel function is these steps. -/
theorem body_ordered :
    cc0_body (F := F) xM (Memref.isWhole_whole _) oM (Memref.isWhole_whole _) pM (Memref.isWhole_whole _) lM (Memref.isWhole_whole _) cc0_scratch2 cc0_scratch3
      = .op .deviceId fun d => ordered d := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret]
  unfold ordered lendThen borrowThen sumThen shipThen collectThen addThen
  rfl

/-! ## What a device holds at the stages of a chunk -/

/-- The invariants of all cells, under the names `K`, and that each is at round 0 at least. -/
def known : sProp 𝕄 :=
  iprop((bigSep Finset.univ fun x : Cell => cellInv ownE (plan m ρ) (K x) (cellAt x))
    ∗ bigSep Finset.univ fun x : Cell => reached ownE (cellAt x) 0)

instance known_persistent : BI.Persistent (known (F := F) m ρ K) := by unfold known; infer_instance

theorem known_inv (x : Cell) : known (F := F) m ρ K ⊢ cellInv ownE (plan m ρ) (K x) (cellAt x) := by
  unfold known; exact Laws.sep_elim_left.trans (bigSep_elim (Finset.mem_univ x))
theorem known_reached (x : Cell) : known (F := F) m ρ K ⊢ reached ownE (cellAt x) 0 := by
  unfold known; exact Laws.sep_elim_right.trans (bigSep_elim (Finset.mem_univ x))

/-- What device `c` owes, whatever it has waited for. -/
def debt (c : Dev nD) (O : CellTallies nD τ sig Unit) : sProp 𝕄 := iprop(∃ W, owes (c : Thread nD τ) O W)

def xHeld (c : Dev nD) : sProp 𝕄 := ((c : Thread nD τ).loc cc0_stg0_0) ↦{fullShare} xBlock m ρ c

/-- The two payments device `c` makes for chunk `k`: on its own send semaphore and on the peer's receive semaphore. -/
def mayShip (c : Dev nD) (k : Fin 8) : sProp 𝕄 :=
  iprop(dutyTok ownE (sndCell c k) 0 () ∗ dutyTok ownE (rcvCell (peer c) k) 0 ())
/-- Device `c` at the start of its send and receive cell `k`, with the credit of the receive cell. -/
def mayCollect (c : Dev nD) (k : Fin 8) : sProp 𝕄 :=
  iprop(atPos ownE (sndCell c k) 0 ∅ 0 ∗ atPos ownE (rcvCell c k) 0 ∅ 0 ∗ cred (tallyAt (rcvCell c k) () slabCredit))
/-- Chunk `k` done: its own slab back, the peer's slab in, both semaphores at zero. -/
def collected (c : Dev nD) (k : Fin 8) : sProp 𝕄 :=
  iprop(pHeld c k (sums m ρ c) ∗ lHeld c k (sums m ρ (peer c)) ∗ semVal (sndCell c k) 0 ∗ semVal (rcvCell c k) 0)

/-! ## The steps -/

section Steps

variable (c : Dev nD) (k : Fin 8)

/-- SUM: the chunk is loaded, reduced and stored in its slab. -/
theorem wp_sum {Q : PUnit → sProp 𝕄} {rest : Steps F} :
    iprop(xHeld m ρ c ∗ ∃ f, pHeld c k f)
      ⊢ iprop(((xHeld m ρ c ∗ pHeld c k (sums m ρ c)) -∗ wp frame (wpE (defs₀ (F := F)) noVar (c : Thread nD τ) none) Set.univ rest Q)
          -∗ wp frame (wpE (defs₀ (F := F)) noVar (c : Thread nD τ) none) Set.univ (sumThen k rest) Q) := by
  unfold xHeld sumThen
  iintro ⟨Hx, %f, Hp⟩ Hk
  iapply (wp_load noVar (c : Thread nD τ) none Set.univ (m := xM) (Finset.subset_univ _)) $$ Hx
  iintro Hx
  unfold pHeld
  iapply (wp_load_rect noVar (c : Thread nD τ) none Set.univ (m := pM) (r := slab k) (Finset.Subset.refl _)) $$ Hp
  rw [← View.setOn_univ]
  iintro Hp
  iapply (wp_store noVar (c : Thread nD τ) none Set.univ (m := pM) (r := slab k) (Mk := Finset.univ) (Finset.Subset.refl _)) $$ Hp
  iintro Hp
  iapply Hk
  isplitl [Hx]; · iexact Hx
  ihave Hp' := (Entails.of_eq (pHeld_stored m ρ c k f)) $$ [Hp]
  · unfold pHeld; iexact Hp
  unfold pHeld; iexact Hp'

/-- SHIP: the slab goes to the same slab of the peer's landing buffer. -/
theorem wp_ship {Q : PUnit → sProp 𝕄} {rest : Steps F}
    (n : Dev nD) (hn : n = peer c)
    (f : Buf (Elt F) ((peer c : Thread nD τ).loc cc0_scratch1)) :
    iprop(known m ρ K ∗ pHeld c k (sums m ρ c) ∗ lHeld (peer c) k f ∗ mayShip c k ∗ debt c (owedFrom c k.val))
      ⊢ iprop(((cred (tallyAt (sndCell c k) () slabCredit) ∗ debt c (owedFrom c (k.val + 1)))
              -∗ wp frame (wpE (defs₀ (F := F)) noVar (c : Thread nD τ) none) Set.univ rest Q)
          -∗ wp frame (wpE (defs₀ (F := F)) noVar (c : Thread nD τ) none) Set.univ (shipThen k n rest) Q) := by
  subst hn
  unfold debt mayShip shipThen
  iintro ⟨#HK, Hp, Hl, ⟨HtS, HtR⟩, %W, HO⟩ Hk
  have hr : τ.routes (c : Thread nD τ) (peer c : Thread nD τ) = true := by routes
  have hN : (lSlab k).view.amount (.dma (rcvS k)) = slabCredit := rfl
  have hp1 : ((pSlab k).view.loc (c : Thread nD τ) ↦[(pSlab k).view.set]{fullShare} sums m ρ c) ⊢ (plan (F := F) m ρ).payload (sndCell c k) 0 () := by
    show _ ⊢ payFor m ρ c (roleOf (.dma (sndS k))); rw [role_snd]; exact BI.Entails.refl _
  have hp2 : ((lSlab k).view.loc (peer c : Thread nD τ) ↦[(lSlab k).view.set]{fullShare}
      ((lSlab k).view.write (Elt F) f ((pSlab k).view.read (Elt F) (sums m ρ c)) Finset.univ)) ⊢ (plan (F := F) m ρ).payload (rcvCell (peer c) k) 0 () := by
    show _ ⊢ payFor m ρ (peer c) (roleOf (.dma (rcvS k)))
    rw [role_rcv]
    refine (Entails.of_eq (lHeld_landed m ρ c (peer c) k f)).trans (Entails.of_eq ?_)
    show _ = lHeld (peer c) k (sums m ρ (peer (peer c)))
    rw [peer_peer]
  have ha1 : (plan (F := F) m ρ).amount (sndCell c k) 0 () = slabCredit := by
    show amountFor (roleOf (.dma (sndS k))) = slabCredit; rw [role_snd]; rfl
  have ha2 : (plan (F := F) m ρ).amount (rcvCell (peer c) k) 0 () = slabCredit := by
    show amountFor (roleOf (.dma (rcvS k))) = slabCredit; rw [role_rcv]; rfl
  have hd1 : () ∈ (plan (F := F) m ρ).duties (sndCell c k) 0 := by rw [plan_duties m ρ c (named_snd k)]; exact Finset.mem_singleton_self _
  have hd2 : () ∈ (plan (F := F) m ρ).duties (rcvCell (peer c) k) 0 := by rw [plan_duties m ρ (peer c) (named_rcv k)]; exact Finset.mem_singleton_self _
  have h := Rounds.wp_send_pointsTo noVar ownE (plan m ρ) (c : Thread nD τ) none (defs := defs₀ (F := F)) (Γ := .empty) (c' := (peer c : Thread nD τ))
    (src := pSlab k) (dst := lSlab k) (sS := .dma (sndS k)) (sem := .dma (rcvS k)) (hsc := rfl) (hsrc := View.wordExact_bits rfl) (hdst := View.wordExact_bits rfl)
    (hsem := ⟨⟨rfl, Or.inl rfl⟩, trivial⟩) (k := fun _ => rest) (Q := Q) (Es := Set.univ)
    (κ₁ := K (sndIx c k)) (κ₂ := K (rcvIx (peer c) k)) (r₁ := 0) (r₂ := 0) (d₁ := ()) (d₂ := ()) (fs := sums m ρ c) (fd := f) (q := fullShare) (W := W)
    hd1 hd2 () () slabCredit hN ha1 ha2 (owedFrom c (k.val + 1)) (owedFrom_next c k) hp1 hp2 hr
  ihave H := h $$ [Hp Hl HtS HtR HO]
  · isplitr; · iapply (known_inv m ρ K (sndIx c k)); iexact HK
    isplitr; · iapply (known_inv m ρ K (rcvIx (peer c) k)); iexact HK
    isplitl [Hp]; · unfold pHeld; iexact Hp
    isplitl [Hl]; · unfold lHeld; iexact Hl
    isplitl [HO]; · iexact HO
    isplitl [HtS]; · iexact HtS
    isplitr; · iapply (known_reached m ρ K (sndIx c k)); iexact HK
    isplitl [HtR]; · iexact HtR
    iapply (known_reached m ρ K (rcvIx (peer c) k)); iexact HK
  iapply H
  iintro ⟨Hc, HO⟩
  iapply Hk
  isplitl [Hc]; · iexact Hc
  iexists W; iexact HO

/-- SUM and SHIP, one after the other. -/
theorem wp_chunk {Q : PUnit → sProp 𝕄} {rest : Steps F} (n : Dev nD) (hn : n = peer c)
    (g : Buf (Elt F) ((c : Thread nD τ).loc cc0_scratch0)) (f : Buf (Elt F) ((peer c : Thread nD τ).loc cc0_scratch1)) :
    iprop(known m ρ K ∗ xHeld m ρ c ∗ pHeld c k g ∗ lHeld (peer c) k f ∗ mayShip c k ∗ debt c (owedFrom c k.val))
      ⊢ iprop(((xHeld m ρ c ∗ cred (tallyAt (sndCell c k) () slabCredit) ∗ debt c (owedFrom c (k.val + 1)))
              -∗ wp frame (wpE (defs₀ (F := F)) noVar (c : Thread nD τ) none) Set.univ rest Q)
          -∗ wp frame (wpE (defs₀ (F := F)) noVar (c : Thread nD τ) none) Set.univ (sumThen k (shipThen k n rest)) Q) := by
  iintro ⟨#HK, Hx, Hp, Hl, Ht, HO⟩ Hk
  iapply (wp_sum m ρ c k) $$ [Hx Hp]
  · isplitl [Hx]; · iexact Hx
    iexists g; iexact Hp
  iintro ⟨Hx, Hp⟩
  iapply (wp_ship m ρ K c k n hn f) $$ [Hp Hl Ht HO]
  · isplitr; · iexact HK
    isplitl [Hp]; · iexact Hp
    isplitl [Hl]; · iexact Hl
    isplitl [Ht] <;> iassumption
  iintro ⟨Hc, HO⟩
  iapply Hk
  isplitl [Hx]; · iexact Hx
  isplitl [Hc] <;> iassumption

/-- COLLECT: the wait for the slab to have been read, then for the peer's slab to have landed. -/
theorem wp_collect {Q : PUnit → sProp 𝕄} {rest : Steps F} :
    iprop(known m ρ K ∗ cred (tallyAt (sndCell c k) () slabCredit) ∗ mayCollect c k ∗ debt c 0)
      ⊢ iprop(((collected m ρ c k ∗ debt c 0)
              -∗ wp frame (wpE (defs₀ (F := F)) noVar (c : Thread nD τ) none) Set.univ rest Q)
          -∗ wp frame (wpE (defs₀ (F := F)) noVar (c : Thread nD τ) none) Set.univ (collectThen k rest) Q) := by
  unfold debt mayCollect collected collectThen
  iintro ⟨#HK, HcS, ⟨HaS, HaR, HcR⟩, %W, HO⟩ Hk
  iapply (Rounds.wp_wait_rest_token noVar ownE (plan m ρ) (c : Thread nD τ) none (κ := K (sndIx c k))
      (wpE_waitDma2_eq noVar (c : Thread nD τ) none Set.univ) (Set.mem_univ _) () (O := 0) (W := W) (R := 0) (m := 0) (T := ∅)
      (by rw [Nat.zero_add, plan_expect m ρ c (named_snd k), role_snd]; rfl)) $$ [HcS HO HaS]
  · isplitr; · iapply (known_inv m ρ K (sndIx c k)); iexact HK
    isplitl [HcS]; · iexact HcS
    isplitl [HO]; · iexact HO
    isplitr; · rw [MayWait_zero]; iempintro
    iexact HaS
  iintro ⟨HO, HaS, -, Hpay⟩
  ihave Hp := (Entails.of_eq ((plan_rest m ρ c (named_snd k)).trans (by rw [role_snd]; rfl : payFor m ρ c (roleOf (.dma (sndS k))) = pHeld c k (sums m ρ c)))) $$ Hpay
  iapply (Rounds.wp_wait_rest_token noVar ownE (plan m ρ) (c : Thread nD τ) none (κ := K (rcvIx c k))
      (wpE_waitDma2_eq noVar (c : Thread nD τ) none Set.univ) (Set.mem_univ _) () (O := 0) (W := insert (SemLoc.dma (sndS k), ()) W)
      (R := 0) (m := 0) (T := ∅)
      (by rw [Nat.zero_add, plan_expect m ρ c (named_rcv k), role_rcv]; rfl)) $$ [HcR HO HaR]
  · isplitr; · iapply (known_inv m ρ K (rcvIx c k)); iexact HK
    isplitl [HcR]; · iexact HcR
    isplitl [HO]; · iexact HO
    isplitr; · rw [MayWait_zero]; iempintro
    iexact HaR
  iintro ⟨HO, HaR, -, Hpay⟩
  ihave Hl := (Entails.of_eq ((plan_rest m ρ c (named_rcv k)).trans (by rw [role_rcv]; rfl : payFor m ρ c (roleOf (.dma (rcvS k))) = lHeld c k (sums m ρ (peer c))))) $$ Hpay
  imod (Rounds.cell_close ownE (plan m ρ) (Set.mem_univ (K (sndIx c k))) (fun h => h) (R := 0 + 1) (plan_later m ρ (sndCell c k))) $$ [HaS] with HzS
  · isplitr; · iapply (known_inv m ρ K (sndIx c k)); iexact HK
    iexact HaS
  imod (Rounds.cell_close ownE (plan m ρ) (Set.mem_univ (K (rcvIx c k))) (fun h => h) (R := 0 + 1) (plan_later m ρ (rcvCell c k))) $$ [HaR] with HzR
  · isplitr; · iapply (known_inv m ρ K (rcvIx c k)); iexact HK
    iexact HaR
  iapply Hk
  isplitr [HO]
  · isplitl [Hp]; · iexact Hp
    isplitl [Hl]; · iexact Hl
    isplitl [HzS] <;> iassumption
  iexists _; iexact HO

/-- HANDSHAKE, first half: the signal lends the peer this device's landing buffer. -/
theorem wp_lend {Q : PUnit → sProp 𝕄} {rest : Steps F}
    (n : Dev nD) (hn : n = peer c) (f : Buf (Elt F) ((c : Thread nD τ).loc cc0_scratch1)) :
    iprop(known m ρ K ∗ (bigSep Finset.univ fun k => lHeld c k f) ∗ dutyTok ownE (barCell (peer c)) 0 () ∗ debt c (owed₀ c))
      ⊢ iprop((debt c (owedFrom c 0) -∗ wp frame (wpE (defs₀ (F := F)) noVar (c : Thread nD τ) none) Set.univ rest Q)
          -∗ wp frame (wpE (defs₀ (F := F)) noVar (c : Thread nD τ) none) Set.univ (lendThen n rest) Q) := by
  subst hn
  unfold debt lendThen
  iintro ⟨#HK, Hl, Ht, %W, HO⟩ Hk
  iapply (Rounds.wp_signal noVar ownE (plan m ρ) (c : Thread nD τ) none (dst := (peer c : Thread nD τ)) (κ := K (barIx (peer c)))
      (d := ()) (r := 0) (by rw [plan_duties m ρ (peer c) named_bar]; exact Finset.mem_singleton_self _) (by rfl) () (owedFrom c 0) rfl)
    $$ [HO Ht Hl]
  · isplitr; · iapply (known_inv m ρ K (barIx (peer c))); iexact HK
    isplitl [HO]; · iexact HO
    isplitl [Ht]; · iexact Ht
    isplitl [Hl]
    · iapply (show iprop(∃ f, bigSep Finset.univ fun k => lHeld c k f) ⊢ (plan (F := F) m ρ).payload (barCell (peer c)) 0 () from
        Entails.of_eq (by show _ = barPay (peer c); unfold barPay; rw [peer_peer]))
      iexists f; iexact Hl
    iapply (known_reached m ρ K (barIx (peer c))); iexact HK
  iintro HO
  iapply Hk
  iexists W; iexact HO

/-- HANDSHAKE, second half: the wait brings the peer's landing buffer. -/
theorem wp_borrow {Q : PUnit → sProp 𝕄} {rest : Steps F} :
    iprop(known m ρ K ∗ levAts lvDom lvOf ∗ cred (tallyAt (barCell c) () 1) ∗ atPos ownE (barCell c) 0 ∅ 0 ∗ debt c (owedFrom c 0))
      ⊢ iprop(((barPay c ∗ semVal (barCell c) 0 ∗ debt c (owedFrom c 0))
              -∗ wp frame (wpE (defs₀ (F := F)) noVar (c : Thread nD τ) none) Set.univ rest Q)
          -∗ wp frame (wpE (defs₀ (F := F)) noVar (c : Thread nD τ) none) Set.univ (borrowThen rest) Q) := by
  unfold debt borrowThen
  iintro ⟨#HK, #Hlev, Hc, Ha, %W, HO⟩ Hk
  iapply (Rounds.wp_wait_rest_token noVar ownE (plan m ρ) (c : Thread nD τ) none (κ := K (barIx c))
      (wpE_semWait_eq noVar (c : Thread nD τ) none Set.univ) (Set.mem_univ _) () (O := owedFrom c 0) (W := W) (R := 0) (m := 0) (T := ∅)
      (by rw [plan_expect m ρ c named_bar]; rfl)) $$ [Hc HO Ha]
  · isplitr; · iapply (known_inv m ρ K (barIx c)); iexact HK
    isplitl [Hc]; · iexact Hc
    isplitl [HO]; · iexact HO
    isplitr; · iapply (mayWait_bar c 0); iexact Hlev
    iexact Ha
  iintro ⟨HO, Ha, -, Hpay⟩
  ihave Hp := (Entails.of_eq (show _ = barPay c from plan_rest m ρ c named_bar)) $$ Hpay
  imod (Rounds.cell_close ownE (plan m ρ) (Set.mem_univ (K (barIx c))) (fun h => h) (R := 0 + 1) (plan_later m ρ (barCell c))) $$ [Ha] with Hz
  · isplitr; · iapply (known_inv m ρ K (barIx c)); iexact HK
    iexact Ha
  iapply Hk
  isplitl [Hp]; · iexact Hp
  isplitl [Hz]; · iexact Hz
  iexists _; iexact HO

/-- What the device leaves in its result block. -/
def outAt : (cc0_stg1_0 : Ref sig .tc).ty.Contents (Elt F) := k0_pay1 (sums m ρ c) (sums m ρ (peer c))

omit [FloatOps F] in
theorem zeros : (![0, 0] : Fin 2 → Nat) = fun _ => 0 := funext fun a => by fin_cases a <;> rfl

/-- ADD: the two buffers of sums are added into the result block. -/
theorem wp_add {Q : PUnit → sProp 𝕄} {rest : Steps F}
    (g : Buf (Elt F) ((c : Thread nD τ).loc cc0_stg1_0)) :
    iprop((((c : Thread nD τ).loc cc0_scratch0) ↦{fullShare} sums m ρ c) ∗ (((c : Thread nD τ).loc cc0_scratch1) ↦{fullShare} sums m ρ (peer c))
        ∗ (((c : Thread nD τ).loc cc0_stg1_0) ↦{fullShare} g))
      ⊢ iprop((((((c : Thread nD τ).loc cc0_scratch0) ↦{fullShare} sums m ρ c) ∗ (((c : Thread nD τ).loc cc0_scratch1) ↦{fullShare} sums m ρ (peer c))
              ∗ (((c : Thread nD τ).loc cc0_stg1_0) ↦{fullShare} outAt m ρ c))
              -∗ wp frame (wpE (defs₀ (F := F)) noVar (c : Thread nD τ) none) Set.univ rest Q)
          -∗ wp frame (wpE (defs₀ (F := F)) noVar (c : Thread nD τ) none) Set.univ (addThen rest) Q) := by
  unfold addThen
  iintro ⟨Hp, Hl, Ho⟩ Hk
  iapply (wp_load noVar (c : Thread nD τ) none Set.univ (m := pM) (Finset.subset_univ _)) $$ Hp; iintro Hp
  rw [show pM.view.readAt (Elt F) full.toLoadRect (sums m ρ c) = sums m ρ c from Memref.readAt_unit_zero (Elt F) cc0_scratch0 zeros _ _]
  iapply (wp_load noVar (c : Thread nD τ) none Set.univ (m := lM) (Finset.subset_univ _)) $$ Hl; iintro Hl
  rw [show lM.view.readAt (Elt F) full.toLoadRect (sums m ρ (peer c)) = sums m ρ (peer c) from Memref.readAt_unit_zero (Elt F) cc0_scratch1 zeros _ _]
  iapply (wp_load noVar (c : Thread nD τ) none Set.univ (m := oM) (Finset.subset_univ _)) $$ Ho; iintro Ho
  iapply (wp_store noVar (c : Thread nD τ) none Set.univ (m := oM) (r := full) (Mk := Finset.univ) (Finset.subset_univ _)) $$ Ho; iintro Ho
  rw [show (oM.access full).write (Elt F) g (k0_pay1 (sums m ρ c) (sums m ρ (peer c))) Finset.univ = outAt m ρ c from
    Memref.write_access_unit_zero_univ (Elt F) cc0_stg1_0 zeros _ _ _]
  iapply Hk
  isplitl [Hp]; · iexact Hp
  isplitl [Hl] <;> iassumption

end Steps

/-! ## The body -/

omit [FloatOps F] in
theorem bigSep_chunks (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- What device `c` starts from, its buffers apart. -/
def begun (c : Dev nD) : sProp 𝕄 :=
  iprop(known m ρ K ∗ levAts lvDom lvOf ∗ dutyTok ownE (barCell (peer c)) 0 () ∗ cred (tallyAt (barCell c) () 1) ∗ atPos ownE (barCell c) 0 ∅ 0
    ∗ (bigSep Finset.univ fun k => mayShip c k) ∗ bigSep Finset.univ fun k => mayCollect c k)

/-- What it ends with: both buffers of sums, every semaphore at zero. -/
def ended (c : Dev nD) : sProp 𝕄 :=
  iprop((((c : Thread nD τ).loc cc0_scratch0) ↦{fullShare} sums m ρ c) ∗ (((c : Thread nD τ).loc cc0_scratch1) ↦{fullShare} sums m ρ (peer c))
    ∗ semVal (barCell c) 0 ∗ (bigSep Finset.univ fun k => semVal (sndCell c k) 0) ∗ bigSep Finset.univ fun k => semVal (rcvCell c k) 0)

/-- All chunks collected are the two buffers whole and the semaphores at zero. -/
theorem collected_all (c : Dev nD) :
    (bigSep Finset.univ fun k => collected m ρ c k)
      = iprop((((c : Thread nD τ).loc cc0_scratch0) ↦{fullShare} sums m ρ c) ∗ (((c : Thread nD τ).loc cc0_scratch1) ↦{fullShare} sums m ρ (peer c))
          ∗ (bigSep Finset.univ fun k => semVal (sndCell c k) 0) ∗ bigSep Finset.univ fun k => semVal (rcvCell c k) 0) := by
  unfold collected
  rw [bigSep_sep', bigSep_sep', bigSep_sep', ← pHeld_all, ← lHeld_all]

set_option maxHeartbeats 4000000 in
theorem wp_body (c : Dev nD) (Q : PUnit → sProp 𝕄)
    (f : Buf (Elt F) ((c : Thread nD τ).loc cc0_scratch0)) (g : Buf (Elt F) ((c : Thread nD τ).loc cc0_scratch1))
    (o : Buf (Elt F) ((c : Thread nD τ).loc cc0_stg1_0)) :
    iprop((begun m ρ K c ∗ xHeld m ρ c ∗ (((c : Thread nD τ).loc cc0_scratch0) ↦{fullShare} f) ∗ (((c : Thread nD τ).loc cc0_scratch1) ↦{fullShare} g)
          ∗ (((c : Thread nD τ).loc cc0_stg1_0) ↦{fullShare} o) ∗ debt c (owed₀ c))
        ∗ ((ended m ρ c ∗ xHeld m ρ c ∗ (((c : Thread nD τ).loc cc0_stg1_0) ↦{fullShare} outAt m ρ c) ∗ debt c 0) -∗ Q ⟨⟩))
      ⊢ wp frame (wpE (defs₀ (F := F)) noVar (c : Thread nD τ) none) Set.univ (cc0_body xM (Memref.isWhole_whole _) oM (Memref.isWhole_whole _) pM (Memref.isWhole_whole _) lM (Memref.isWhole_whole _) cc0_scratch2 cc0_scratch3) Q := by
  rw [body_ordered]
  simp only [wp_deviceId]
  unfold ordered
  unfold begun
  rw [pHeld_all, lHeld_all, bigSep_chunks (fun k => pHeld c k f), bigSep_chunks (fun k => mayShip c k), bigSep_chunks (fun k => mayCollect c k)]
  iintro ⟨⟨⟨#HK, #Hlev, HtB, HcB, HaB, ⟨S0, S1, S2, S3, S4, S5, S6, S7⟩, C0, C1, C2, C3, C4, C5, C6, C7⟩, Hx,
    ⟨P0, P1, P2, P3, P4, P5, P6, P7⟩, Hl, Ho, HO⟩, Hk⟩
  iapply (wp_lend m ρ K c _ (peer_of_val c _ (k0_dev1_eq c)) g) $$ [Hl HtB HO]
  · isplitr; · iexact HK
    isplitl [Hl]; · iexact Hl
    isplitl [HtB] <;> iassumption
  iintro HO
  iapply (wp_sum m ρ c 0) $$ [Hx P0]
  · isplitl [Hx]; · iexact Hx
    iexists f; iexact P0
  iintro ⟨Hx, P0⟩
  iapply (wp_borrow m ρ K c) $$ [HcB HaB HO]
  · isplitr; · iexact HK
    isplitr; · iexact Hlev
    isplitl [HcB]; · iexact HcB
    isplitl [HaB] <;> iassumption
  iintro ⟨Hl, HzB, HO⟩
  unfold barPay
  icases Hl with ⟨%h, Hl⟩
  ihave Hl := (Entails.of_eq (bigSep_chunks (fun k => lHeld (peer c) k h))) $$ Hl
  icases Hl with ⟨L0, L1, L2, L3, L4, L5, L6, L7⟩
  iapply (wp_ship m ρ K c 0 _ (peer_of_val c _ (k0_dev2_eq c)) h) $$ [P0 L0 S0 HO]
  · isplitr; · iexact HK
    isplitl [P0]; · iexact P0
    isplitl [L0]; · iexact L0
    isplitl [S0]; · iexact S0
    iexact HO
  iintro ⟨D0, HO⟩
  iapply (wp_chunk m ρ K c 1 _ (peer_of_val c _ (k0_dev3_eq c)) f h) $$ [Hx P1 L1 S1 HO]
  · iframe HK Hx P1 L1 S1
    iexact HO
  iintro ⟨Hx, D1, HO⟩
  iapply (wp_chunk m ρ K c 2 _ (peer_of_val c _ (k0_dev4_eq c)) f h) $$ [Hx P2 L2 S2 HO]
  · iframe HK Hx P2 L2 S2
    iexact HO
  iintro ⟨Hx, D2, HO⟩
  iapply (wp_chunk m ρ K c 3 _ (peer_of_val c _ (k0_dev5_eq c)) f h) $$ [Hx P3 L3 S3 HO]
  · iframe HK Hx P3 L3 S3
    iexact HO
  iintro ⟨Hx, D3, HO⟩
  iapply (wp_chunk m ρ K c 4 _ (peer_of_val c _ (k0_dev6_eq c)) f h) $$ [Hx P4 L4 S4 HO]
  · iframe HK Hx P4 L4 S4
    iexact HO
  iintro ⟨Hx, D4, HO⟩
  iapply (wp_chunk m ρ K c 5 _ (peer_of_val c _ (k0_dev7_eq c)) f h) $$ [Hx P5 L5 S5 HO]
  · iframe HK Hx P5 L5 S5
    iexact HO
  iintro ⟨Hx, D5, HO⟩
  iapply (wp_chunk m ρ K c 6 _ (peer_of_val c _ (k0_dev8_eq c)) f h) $$ [Hx P6 L6 S6 HO]
  · iframe HK Hx P6 L6 S6
    iexact HO
  iintro ⟨Hx, D6, HO⟩
  iapply (wp_chunk m ρ K c 7 _ (peer_of_val c _ (k0_dev9_eq c)) f h) $$ [Hx P7 L7 S7 HO]
  · iframe HK Hx P7 L7 S7
    iexact HO
  iintro ⟨Hx, D7, HO⟩
  rw [show owedFrom c ((7 : Fin 8).val + 1) = 0 from owedFrom_done c]
  iapply (wp_collect m ρ K c 0) $$ [D0 C0 HO]
  · iframe HK D0 C0 HO
  iintro ⟨P0, HO⟩
  iapply (wp_collect m ρ K c 1) $$ [D1 C1 HO]
  · iframe HK D1 C1 HO
  iintro ⟨P1, HO⟩
  iapply (wp_collect m ρ K c 2) $$ [D2 C2 HO]
  · iframe HK D2 C2 HO
  iintro ⟨P2, HO⟩
  iapply (wp_collect m ρ K c 3) $$ [D3 C3 HO]
  · iframe HK D3 C3 HO
  iintro ⟨P3, HO⟩
  iapply (wp_collect m ρ K c 4) $$ [D4 C4 HO]
  · iframe HK D4 C4 HO
  iintro ⟨P4, HO⟩
  iapply (wp_collect m ρ K c 5) $$ [D5 C5 HO]
  · iframe HK D5 C5 HO
  iintro ⟨P5, HO⟩
  iapply (wp_collect m ρ K c 6) $$ [D6 C6 HO]
  · iframe HK D6 C6 HO
  iintro ⟨P6, HO⟩
  iapply (wp_collect m ρ K c 7) $$ [D7 C7 HO]
  · iframe HK D7 C7 HO
  iintro ⟨P7, HO⟩
  ihave Hall := (Entails.of_eq ((bigSep_chunks fun k => collected m ρ c k).symm.trans (collected_all m ρ c))) $$ [P0 P1 P2 P3 P4 P5 P6 P7]
  · iframe P0 P1 P2 P3 P4 P5 P6 P7
  icases Hall with ⟨Hp, Hl, Hs, Hr⟩
  iapply (wp_add m ρ c o) $$ [Hp Hl Ho]
  · isplitl [Hp]; · iexact Hp
    isplitl [Hl] <;> iassumption
  iintro ⟨Hp, Hl, Ho⟩
  rw [wp_ret]; imodintro
  iapply Hk
  unfold ended
  isplitl [Hp Hl HzB Hs Hr]
  · isplitl [Hp]; · iexact Hp
    isplitl [Hl]; · iexact Hl
    isplitl [HzB]; · iexact HzB
    isplitl [Hs] <;> iassumption
  isplitl [Hx]; · iexact Hx
  isplitl [Ho] <;> iassumption

end Cert.RowSums

end
-- ==== Proof.Run.lean ====
/-
# The run

The window contents and what is owed at either end of the single grid point, the body's obligation, and the launch:
every semaphore's schedule is set up at once for all devices, and the payment tokens of the barrier and receive
semaphores change hands within every mesh row.
-/
module

public import proofs.«01_k».proof.Proof.Body
public import Idealize.ShloMosaic.Lib.Pipeline.CollectiveSegs

@[expose] public section

noncomputable section

namespace Cert.RowSums

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ Ghost ℕ

variable (m : (ℓ : Loc nD τ sig) → Buf (Elt F) ℓ) (ρ : Dev nD → PrngReg)

/-! ## The pipeline's data -/

/-- Device `c` before the grid point: its ghost state and both buffers of sums, any contents. -/
def entering (c : Dev nD) : sProp 𝕄 :=
  iprop((∃ K, begun m ρ K c) ∗ (∃ f, ((c : Thread nD τ).loc cc0_scratch0) ↦{fullShare} f) ∗ ∃ f, ((c : Thread nD τ).loc cc0_scratch1) ↦{fullShare} f)

def dats (_ : Fin 1) (c : Dev nD) : Dat τ (Elt F) Unit ℕ Ghost ℕ cfg0 c where
  A w := (start₀ m ρ).mem ((cfg0.win w).arr.view.loc (c : Thread nD τ))
  after w _ := match w with
    | ⟨0, _⟩ => xBlock m ρ c
    | ⟨1, _⟩ => outAt m ρ c
  Φ t := match t with
    | ⟨0, _⟩ => entering m ρ c
    | ⟨_ + 1, _⟩ => ended m ρ c
  q _ := fullShare
  owed t := match t with
    | ⟨0, _⟩ => owed₀ c
    | ⟨_ + 1, _⟩ => 0

omit [FloatOps F] in
/-- A whole staging buffer owned at contents `X`. -/
theorem owns_staged (c : Dev nD) (b : Ref sig .tc) (X : b.ty.Contents (Elt F)) :
    (owns (Ix := Unit) (Name := ℕ) (U := Ghost) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem body_obligation (c : Dev nD) : BodyObligation (dats (F := F) m ρ 0 c) (defs₀ (F := F)) noVar () Set.univ := fun t => by
  rw [fin_N0 t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [owns_staged]
  show iprop(entering m ρ c ∗ (dats m ρ 0 c).owesAt () t0_0.castSucc
      ∗ (∃ d, staged c cc0_stg0_0 ((dats m ρ 0 c).before (0 : Fin 2) t0_0 d)) ∗ (∃ d, staged c cc0_stg1_0 ((dats m ρ 0 c).before (1 : Fin 2) t0_0 d)))
    ⊢ wp frame (wpE (defs₀ (F := F)) noVar c none) Set.univ
      (cc0_body xM (Memref.isWhole_whole _) oM (Memref.isWhole_whole _) pM (Memref.isWhole_whole _) lM (Memref.isWhole_whole _) cc0_scratch2 cc0_scratch3)
      (fun _ => iprop(ended m ρ c ∗ (dats m ρ 0 c).owesAt () t0_0.succ ∗ staged c cc0_stg0_0 (xBlock m ρ c) ∗ staged c cc0_stg1_0 (outAt m ρ c)))
  unfold entering Dat.owesAt Pipeline.owesWithin
  iintro ⟨⟨⟨%K, Hb⟩, ⟨%f, Hp⟩, %g, Hl⟩, ⟨%W, %hW, HO⟩, ⟨%d0, %g0, %hg0, Hx⟩, %d1, %g1, %hg1, Ho⟩
  have hx : g0 = xBlock m ρ c := by
    rw [hg0]; unfold Dat.before
    rw [if_pos (show (cfg0.win (0 : Fin 2)).fetch t0_0 = true by rfl)]; rfl
  subst hx
  iapply (wp_body m ρ K c _ f g g1)
  isplitl [Hb Hp Hl HO Hx Ho]
  · isplitl [Hb]; · iexact Hb
    isplitl [Hx]; · unfold xHeld; iexact Hx
    isplitl [Hp]; · iexact Hp
    isplitl [Hl]; · iexact Hl
    isplitl [Ho]; · iexact Ho
    unfold debt; iexists W; iexact HO
  unfold xHeld debt
  iintro ⟨He, Hx, Ho, %W', HO⟩
  isplitl [He]; · iexact He
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

/-! ## The launch -/

/-- All cells of all devices, and one payment token each. -/
def allCells : Finset (GSem nD τ sig) := Finset.univ.map ⟨cellAt, cellAt_injective⟩
def allToks : Finset (GSem nD τ sig × ℕ × Unit) :=
  Finset.univ.map ⟨fun x : Cell => (cellAt x, 0, ()), fun _ _ h => cellAt_injective (congrArg Prod.fst h)⟩

def u₀ : Ghost :=
  (initOf (Pipeline.cells cfgs cellOf_inj) (Pipeline.launchToks cfgs cellOf_inj), initOf allCells allToks)

/-- A statement of every cell, device by device. -/
def atCells (Φ : Cell → sProp 𝕄) (c : Dev nD) : sProp 𝕄 := bigSep Finset.univ fun s => Φ (c, s)

omit [FloatOps F] in
theorem atCells_all (Φ : Cell → sProp 𝕄) : bigSep Finset.univ Φ = bigSep Finset.univ (atCells Φ) := by
  unfold atCells; rw [bigSep_univ_prod]

omit [FloatOps F] in
/-- The cells of one device: the barrier's, the send cells, the receive cells. -/
theorem atCells_eq (Φ : Cell → sProp 𝕄) (c : Dev nD) :
    atCells Φ c = iprop(Φ (barIx c) ∗ (bigSep Finset.univ fun k => Φ (sndIx c k)) ∗ bigSep Finset.univ fun k => Φ (rcvIx c k)) := by
  unfold atCells; rw [bigSep_univ_sum, bigSep_univ_sum, bigSep_univ_of_subsingleton ()]; rfl

/-- What the launch gives device `c`. -/
def given (c : Dev nD) : sProp 𝕄 :=
  iprop(atCells (fun x => roundState ownE (plan m ρ) (cellAt x) 0) c ∗ atCells (fun x => atPos ownE (cellAt x) 0 ∅ 0) c
    ∗ atCells (fun x => reached ownE (cellAt x) 0) c ∗ atCells (fun x => dutyTok ownE (cellAt x) 0 ()) c)

theorem fund_all : BI.own (ownE (F := F) (initOf allCells allToks)) ⊢ (|==> bigSep Finset.univ (given m ρ) : sProp 𝕄) := by
  have hX (Φ : GSem nD τ sig → sProp 𝕄) : bigSep allCells Φ = bigSep Finset.univ (atCells fun x => Φ (cellAt x)) := by
    unfold allCells; rw [bigSep_map, ← atCells_all]; rfl
  have hT : bigSep allToks (fun x => (dutyTok ownE x.1 x.2.1 x.2.2 : sProp 𝕄)) = bigSep Finset.univ (atCells fun x => dutyTok ownE (cellAt x) 0 ()) := by
    unfold allToks; rw [bigSep_map, ← atCells_all]; rfl
  unfold given
  rw [bigSep_sep', bigSep_sep', bigSep_sep', ← hT, ← hX fun g => roundState ownE (plan m ρ) g 0, ← hX fun g => atPos ownE g 0 ∅ 0,
    ← hX fun g => reached ownE g 0]
  iintro HX
  imod (Rounds.fund ownE (plan m ρ) allCells allToks) $$ HX with ⟨Hst, Hr, Hat, Htok⟩
  imodintro
  isplitl [Hst]; · iexact Hst
  isplitl [Hat]; · iexact Hat
  isplitl [Hr]; · iexact Hr
  iexact Htok

omit [FloatOps F] in
theorem ownSems_eq (c : Dev nD) :
    (Pipeline.ownSems0 (Ix := Unit) (Name := ℕ) (U := Ghost) (Lvl := ℕ) (Val := Elt F) (τ := τ) ownSem c : sProp 𝕄)
      = iprop((bigSep Finset.univ fun k => semVal (sndCell c k) 0) ∗ bigSep Finset.univ fun k => semVal (rcvCell c k) 0) := by
  unfold Pipeline.ownSems0; rw [bigSep_univ_sum]; rfl

omit [FloatOps F] in
theorem barrierSem_eq (c : Dev nD) : (unscopedSems0 c : sProp 𝕄) = semVal (barCell c) 0 := by
  unfold unscopedSems0; rw [bigSep_eq_bigSepL_of_eq [SemLoc.reg barS] (by decide) (by decide)]; rfl

/-- Every cell of a device goes under its invariant. -/
theorem core_setup (c : Dev nD) :
    iprop(Pipeline.ownSems0 (Ix := Unit) (Name := ℕ) (U := Ghost) (Lvl := ℕ) (Val := Elt F) (τ := τ) ownSem c ∗ unscopedSems0 c ∗ given m ρ c)
      ⊢ |={Set.univ}=> iprop(atCells (fun x => iprop(∃ κ : ℕ, cellInv ownE (plan m ρ) κ (cellAt x))) c
          ∗ atCells (fun x => atPos ownE (cellAt x) 0 ∅ 0) c ∗ atCells (fun x => reached ownE (cellAt x) 0) c
          ∗ atCells (fun x => dutyTok ownE (cellAt x) 0 ()) c) := by
  have halloc : iprop(atCells (fun x => semVal (cellAt x) 0) c ∗ atCells (fun x => roundState ownE (plan m ρ) (cellAt x) 0) c)
      ⊢ (|={Set.univ}=> atCells (fun x => iprop(∃ κ : ℕ, cellInv ownE (plan m ρ) κ (cellAt x))) c : sProp 𝕄) := by
    unfold atCells
    rw [← bigSep_sep']
    exact (bigSep_mono fun s _ => (Rounds.body_intro ownE (plan m ρ) (cellAt (c, s))).trans inv_alloc).trans (bigSep_fupd _ _)
  unfold given
  rw [ownSems_eq, barrierSem_eq]
  iintro ⟨⟨Hs, Hr⟩, Hb, Hst, Hrest⟩
  imod halloc $$ [Hs Hr Hb Hst] with Hinv
  · rw [atCells_eq (fun x => semVal (cellAt x) 0)]
    isplitr [Hst]
    · isplitl [Hb]; · iexact Hb
      isplitl [Hs]; · iexact Hs
      iexact Hr
    iexact Hst
  imodintro
  isplitl [Hinv]; · iexact Hinv
  iexact Hrest

/-- What device `c` keeps: its positions and the tokens of the payments it makes. -/
def kept (c : Dev nD) : sProp 𝕄 :=
  iprop(atCells (fun x => atPos ownE (cellAt x) 0 ∅ 0) c
    ∗ dutyTok ownE (barCell (peer c)) 0 () ∗ (bigSep Finset.univ fun k => dutyTok ownE (sndCell c k) 0 ())
    ∗ bigSep Finset.univ fun k => dutyTok ownE (rcvCell (peer c) k) 0 ())

omit [FloatOps F] in
/-- The tokens dealt: a barrier's and a receive semaphore's go to the peer. -/
theorem toks_dealt : (bigSep Finset.univ (atCells fun x => (dutyTok ownE (cellAt x) 0 () : sProp 𝕄)))
    = iprop((bigSep Finset.univ fun c => dutyTok ownE (barCell (peer c)) 0 ())
        ∗ (bigSep Finset.univ fun c => bigSep Finset.univ fun k => dutyTok ownE (sndCell c k) 0 ())
        ∗ bigSep Finset.univ fun c => bigSep Finset.univ fun k => dutyTok ownE (rcvCell (peer c) k) 0 ()) := by
  rw [bigSep_congr (s := Finset.univ) fun c _ => atCells_eq (fun x => (dutyTok ownE (cellAt x) 0 () : sProp 𝕄)) c, bigSep_sep', bigSep_sep',
    bigSep_univ_equiv swap (fun c : Dev nD => (dutyTok ownE (cellAt (barIx c)) 0 () : sProp 𝕄)),
    bigSep_univ_equiv swap (fun c : Dev nD => (bigSep Finset.univ fun k => dutyTok ownE (cellAt (rcvIx c k)) 0 () : sProp 𝕄))]
  rfl

/-- What a device starts from, but for the launch credit and the levels. -/
def seeded (c : Dev nD) : sProp 𝕄 := iprop(∃ K, known m ρ K ∗ kept c)

/-- The set-up of all devices at once. -/
theorem setup :
    (bigSep Finset.univ fun c => iprop(Pipeline.ownSems0 (Ix := Unit) (Name := ℕ) (U := Ghost) (Lvl := ℕ) (Val := Elt F) (τ := τ) ownSem c
        ∗ unscopedSems0 c ∗ given m ρ c) : sProp 𝕄)
      ⊢ |={Set.univ}=> bigSep Finset.univ (seeded m ρ) := by
  suffices h : (bigSep Finset.univ fun c => iprop(atCells (fun x => iprop(∃ κ : ℕ, cellInv ownE (plan m ρ) κ (cellAt x))) c
      ∗ atCells (fun x => atPos ownE (cellAt x) 0 ∅ 0) c ∗ atCells (fun x => reached ownE (cellAt x) 0) c
      ∗ atCells (fun x => dutyTok ownE (cellAt x) 0 ()) c) : sProp 𝕄) ⊢ bigSep Finset.univ (seeded m ρ) from
    ((bigSep_mono fun c _ => core_setup m ρ c).trans (bigSep_fupd _ _)).trans (BI.fupd_mono h)
  rw [bigSep_sep', bigSep_sep', bigSep_sep', toks_dealt, ← atCells_all, ← atCells_all (fun x => reached ownE (cellAt x) 0)]
  iintro ⟨HI, Hat, #HR, HtB, HtS, HtR⟩
  ihave HK := (BI.bigSep_exists_pi Finset.univ (fun (x : Cell) (κ : ℕ) => (cellInv ownE (plan m ρ) κ (cellAt x) : sProp 𝕄))) $$ HI
  icases HK with ⟨%K, #HI⟩
  iapply (bigSep_with_persistent (R := known m ρ K) (Φ := kept) fun c _ => show _ ⊢ seeded m ρ c from by
    unfold seeded; iintro H; iexists K; iexact H)
  isplitr
  · unfold known; isplitl; · iexact HI
    iexact HR
  unfold kept
  rw [bigSep_sep', bigSep_sep', bigSep_sep']
  isplitl [Hat]; · iexact Hat
  isplitl [HtB]; · iexact HtB
  isplitl [HtS]; · iexact HtS
  iexact HtR

/-! ### The launch credit -/

omit [FloatOps F] in
theorem credits (c : Dev nD) :
    (Pipeline.launchCred owed₀ c : sProp 𝕄)
      ⊢ iprop((bigSep Finset.univ fun k => cred (tallyAt (rcvCell c k) () slabCredit)) ∗ cred (tallyAt (barCell c) () 1)) := by
  rw [show (owed₀ : Dev nD → CellTallies nD τ sig Unit)
      = fun d => (fun d => ∑ k ∈ (Finset.univ : Finset (Fin 8)), (fun (k : Fin 8) (d : Dev nD) => tallyAt (((peer d).tc : Thread nD τ), SemLoc.dma (rcvS k)) () slabCredit) k d) d
          + (fun d => tallyAt (((peer d).tc : Thread nD τ), SemLoc.reg barS) () 1) d from by
      funext d; unfold owed₀ owedFrom; simp only [Nat.zero_le, if_true],
    Pipeline.launchCred_add, Pipeline.launchCred_sum]
  exact BI.sep_mono (bigSep_mono fun k _ => Pipeline.launchCred_tallyAt (SemLoc.dma (rcvS k)) peer peer peer_peer peer_peer () slabCredit c)
    (Pipeline.launchCred_tallyAt (SemLoc.reg barS) peer peer peer_peer peer_peer () 1 c)

/-! ### The run -/

/-- What a device brings to the region. -/
def ready (c : Dev nD) : sProp 𝕄 := iprop(∃ K, begun m ρ K c)

theorem ready_intro (c : Dev nD) :
    iprop(Pipeline.unscopedRestP Pipeline.Prefetch.none cfg0.spec c (fun b => m ((c : Thread nD τ).loc b)) ∗ levAts lvDom lvOf
        ∗ Pipeline.launchCred owed₀ c ∗ prngReg c (ρ c) ∗ seeded m ρ c)
      ⊢ |={Set.univ}=> iprop(ready m ρ c ∗ emp) := by
  iintro ⟨-, Hlev, Hcr, -, HG⟩
  ihave Hc := (credits (F := F) c) $$ Hcr
  icases Hc with ⟨HcR, HcB⟩
  unfold seeded kept
  icases HG with ⟨%K, HK, Hat, HtB, HtS, HtR⟩
  ihave Hat := (Entails.of_eq (atCells_eq (fun x => (atPos ownE (cellAt x) 0 ∅ 0 : sProp 𝕄)) c)) $$ Hat
  icases Hat with ⟨HaB, HaS, HaR⟩
  imodintro
  isplitl
  · unfold ready begun mayShip mayCollect
    rw [bigSep_sep', bigSep_sep', bigSep_sep']
    iexists K
    isplitl [HK]; · iexact HK
    isplitl [Hlev]; · iexact Hlev
    isplitl [HtB]; · iexact HtB
    isplitl [HcB]; · iexact HcB
    isplitl [HaB]; · iexact HaB
    isplitl [HtS HtR]
    · isplitl [HtS] <;> iassumption
    isplitl [HaS]; · iexact HaS
    isplitl [HaR]; · iexact HaR
    iexact HcR
  · iempintro

theorem enter (c : Dev nD) :
    iprop(ready m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = entering m ρ c from rfl, scopedRest0_eq]
  unfold ready entering
  iintro ⟨Hs, -, Hp, Hl⟩
  isplitl [Hs]; · iexact Hs
  isplitl [Hp] <;> iassumption

theorem leave (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = ended m ρ c from rfl, scopedRest0_eq, ownSems_eq, barrierSem_eq]
  unfold ended
  iintro ⟨Hp, Hl, Hb, Hs, Hr⟩
  isplitl [Hb]; · iexact Hb
  isplitl [Hs Hr]
  · isplitl [Hs] <;> iassumption
  isplitl [Hp]
  · iexists _; iexact Hp
  iexists _; iexact Hl

theorem share_full (c : Dev nD) (w : Fin cfg0.W) : (dats m ρ 0 c).share w = fullShare := by unfold Dat.share; split <;> rfl

theorem waits (c : Dev nD) : (levAts lvDom lvOf : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What array `w` of device `c` holds after the run. -/
def finalOf (c : Dev nD) (w : Fin cfg0.W) : Buf (Elt F) ((cfg0.win w).arr.view.loc (c : Thread nD τ)) := (dats m ρ 0 c).arrAt w cfg0.N

set_option maxRecDepth 8000 in
/-- From any memory with every counter at zero, every fair execution of the program on all devices terminates; then each
    array of each device holds `finalOf` and every counter is at zero. -/
theorem run_main :
    θ_run defs (onTc (τ := τ) (main (F := F))) (start₀ m ρ) (fun r =>
      (∀ c : Dev nD, ∀ w : Fin cfg0.W, r.2.mem ((cfg0.win w).arr.view.loc (c : Thread nD τ)) = finalOf m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSem_facts (Pipeline.PreFacts.none _) stageE defs₀ noVar m ρ main
    (hmain := fun _ => rfl)
    (hbody := body_obligation m ρ) (hne := fun w => by fin_cases w <;> exact Nat.succ_pos _) (harr := arr_whole0) (hstage := stage_whole0)
    (hshare := share_full m ρ) (hdistinct := winFacts0.arr_inj)
    (O₀ := owed₀) (howed₀ := fun _ => rfl) (howedN := fun _ => rfl)
    (L := lvDom) (lv := lvOf) (hL := lvDom_ne) (hwaits := waits m ρ)
    (G := given m ρ) (G' := seeded m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := setup m ρ)
    (hA := fun _ _ => rfl) (hpf := fun _ k => k.elim0)
    (X := ready m ρ) (Y := fun c => unscopedSems0 c) (Z := fun _ => iprop(emp))
    (hX := ready_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument is left as it was. -/
theorem final_arg (c : Dev nD) : finalOf m ρ c (0 : Fin 2) = m ((c : Thread nD τ).loc main_arg0) :=
  (dats (F := F) m ρ 0 c).arrAt_in (0 : Fin 2) rfl _

end Cert.RowSums

end
-- ==== Proof.Reference.lean ====
/-
# The reference's value

The reference sums every row of the whole array and lays the sums out in rows of 128.
-/
module

public import proofs.«01_k».proof.Proof.Gen.ReferenceIdeal.Run
public import Idealize.ShloMosaic.Lib.Pointwise
public import Idealize.ShloMosaic.PureOps.Ideal.Laws
public import Idealize.ShloMosaic.Lib.IdealHost

@[expose] public section

noncomputable section

namespace Cert.RowSums

open Cert.ReferenceIdeal Cert.ReferenceIdeal.Gen
open Idealize.ShloMosaic
open Idealize.ShloMosaic.TcCoe

/-- The sums of the rows of a whole array. -/
def wholeSums (x : S4096x2048.Idx → Elt Ideal .bf16) : S32x128.Idx → Elt Ideal .f32 :=
  fun i => ∑ l : Fin 2048, x (ix2 ⟨128 * (i 0).val + (i 1).val, by
    have h0 : (i 0).val < 32 := (i 0).isLt
    have h1 : (i 1).val < 128 := (i 1).isLt
    omega⟩ l)

/-- The reference's operations compute them. -/
theorem reference_eq (x : S4096x2048.Idx → Elt Ideal .bf16) :
    shapeCast S32x128 (extf (F := Ideal) .f32 (truncf .bf16 (broadcastInDim S4096x1 ![0] bcast_S4096_S4096x1_0
      (Host.reduceAdd (extf .f32 x bitsLt_bf16_f32) (constant S_ .f32 0x00000000#32) reducesTo_S4096x2048_S4096_d1 h_S_))
      bitsLt_bf16_f32) bitsLt_bf16_f32) shapeCasts_S4096x1_S32x128 = wholeSums x := by
  funext i
  unfold wholeSums
  pointwise
  simp only [Nat.mul_comm 128]

end Cert.RowSums

end
-- ==== Proof.Value.lean ====
/-
# What the program and the reference compute, element by element

Over exact numbers a format conversion changes nothing and a sum does not depend on its order. Element `(i, j)` of a
device's result is then the sum of row `128 i + j` of its own block and of its peer's block; the two blocks are the two
halves of one row of the whole array, and the reference sums that row.
-/
module

public import proofs.«01_k».proof.Proof.Run
public import proofs.«01_k».proof.Proof.Reference
public import Idealize.ShloMosaic.Lib.Pointwise
public import Idealize.ShloMosaic.Lib.Pipeline.ValueKit
public import Idealize.ShloMosaic.Lib.Layout
public import Idealize.ShloMosaic.PureOps.Ideal.Laws
public import Idealize.ShloMosaic.Lib.IdealHost

@[expose] public section

noncomputable section

namespace Cert.RowSums

open Cert.KernelIdeal Cert.KernelIdeal.Gen
open Idealize.ShloMosaic
open Idealize.ShloMosaic.TcCoe
open Idealize.SL.Sem
open Idealize.ShloMosaic.Pipeline (Dat)

section AnyFloats

variable {F : FTy → Type} [FloatOps F] (m : (ℓ : Loc nD τ sig) → Buf (Elt F) ℓ) (ρ : Dev nD → PrngReg)

/-- The one grid point writes the whole result. -/
theorem final_out (c : Dev nD) : finalOf m ρ c (1 : Fin 2) = outAt m ρ c := by
  unfold finalOf
  refine (dats m ρ 0 c).arrAt_eq_of_after_last (1 : Fin 2) t0_0 (by decide +kernel) _ fun j => ?_
  blk_simp
  rfl

/-- The staged block is the device's array. -/
theorem xBlock_eq (c : Dev nD) (j : S2048x1024.Idx) : xBlock m ρ c j = m ((c : Thread nD τ).loc main_arg0) j := by
  unfold xBlock start₀
  blk_simp
  refine congrArg (m ((c : Thread nD τ).loc main_arg0)) ?_
  funext a
  apply Fin.ext
  fin_cases a
  · show 0 * 2048 + 1 * (j 0).val = (j 0).val
    omega
  · show 0 * 1024 + 1 * (j 1).val = (j 1).val
    omega

/-- Chunk `k` of the device's array. -/
theorem rowsOf_apply (c : Dev nD) (k : Fin 8) (r : Fin 256) (l : Fin 1024) :
    rowsOf m ρ c k (ix2 r l) = m ((c : Thread nD τ).loc main_arg0) (ix2 ⟨256 * k.val + r.val, by omega⟩ l) := by
  unfold rowsOf
  show xBlock m ρ c ((chunk k).toLoadRect.idx (ix2 r l)) = _
  rw [xBlock_eq]
  refine congrArg (m ((c : Thread nD τ).loc main_arg0)) ?_
  funext a
  apply Fin.ext
  fin_cases a
  · show 256 * k.val + 1 * r.val = 256 * k.val + r.val
    omega
  · show 0 + 1 * l.val = l.val
    omega

end AnyFloats

variable (m : (ℓ : Loc nD τ sig) → Buf (Elt Ideal) ℓ) (ρ : Dev nD → PrngReg)

/-- The sums of a chunk, laid out in two rows of 128. -/
theorem pay_apply (v : S256x1024.Idx → Elt Ideal .bf16) (a : Fin 2) (b : Fin 128) :
    k0_pay2 (F := Ideal) v (ix2 a b) = ∑ l : Fin 1024, v (ix2 ⟨128 * a.val + b.val, by omega⟩ l) := by
  unfold k0_pay2
  pointwise
  simp only [Nat.mul_comm 128]

/-- The sum of row `r` of device `c`'s array. -/
def rowSum (c : Dev nD) (r : Fin 2048) : Elt Ideal .bf16 :=
  ∑ l : Fin 1024, m ((c : Thread nD τ).loc main_arg0) (ix2 r l)

/-- A device's partial sums are the sums of its rows, -/
theorem sums_apply (c : Dev nD) (i : Fin 16) (j : Fin 128) :
    sums m ρ c (ix2 i j) = rowSum m c ⟨128 * i.val + j.val, by omega⟩ := by
  show k0_pay2 (rowsOf m ρ c (slabOf (ix2 i j))) (inSlab (ix2 i j)) = _
  rw [show inSlab (ix2 i j) = ix2 ⟨i.val % 2, by omega⟩ j from by idx_ext, pay_apply]
  refine Finset.sum_congr rfl fun l _ => ?_
  rw [rowsOf_apply]
  congr 2
  apply Fin.ext
  show 256 * (i.val / 2) + (128 * (i.val % 2) + j.val) = 128 * i.val + j.val
  omega

/-- and its result adds its peer's to them. -/
theorem out_apply (c : Dev nD) (i : Fin 16) (j : Fin 128) :
    outAt m ρ c (ix2 i j) = rowSum m c ⟨128 * i.val + j.val, by omega⟩ + rowSum m (peer c) ⟨128 * i.val + j.val, by omega⟩ := by
  rw [← sums_apply m ρ, ← sums_apply m ρ]
  rfl

/-! ## The two halves of a row -/

/-- Two different halves of a row, in either order, are the row. -/
theorem sum_halves (f : Fin 2048 → Elt Ideal .bf16) (p q : ℕ) (h : p + q = 1) :
    (∑ l : Fin 1024, f ⟨p * 1024 + l.val, by omega⟩) + ∑ l : Fin 1024, f ⟨q * 1024 + l.val, by omega⟩ = ∑ l, f l := by
  rw [Fin.sum_univ_two_halves 1024 1024 rfl f]
  obtain ⟨rfl, rfl⟩ | ⟨rfl, rfl⟩ : p = 0 ∧ q = 1 ∨ p = 1 ∧ q = 0 := by omega
  · simp only [Nat.zero_mul, Nat.one_mul, Nat.zero_add]
  · simp only [Nat.zero_mul, Nat.one_mul, Nat.zero_add]
    exact add_comm _ _

/-- What the device at `(c / 2, c % 2)` of the mesh holds of a whole array. -/
theorem held_apply (x : Cert.ReferenceIdeal.S4096x2048.Idx → Elt Ideal .bf16) (c : Dev nD) (r : Fin 2048) (l : Fin 1024) :
    Layout.blockN ⟨2, ![2048, 1024]⟩ ⟨2, ![4096, 2048]⟩ (Layout.meshBlock [2, 2] ![[0], [1]] c) x (by decide) (ix2 r l)
      = x (ix2 ⟨c.val / 2 * 2048 + r.val, by have h : c.val < 4 := c.isLt; omega⟩ ⟨c.val % 2 * 1024 + l.val, by omega⟩) := by
  rw [Layout.blockN_apply]
  refine congrArg x ?_
  funext a
  apply Fin.ext
  rw [Layout.TilesN.idx_val]
  fin_cases a
  · show (c.val / 2 % 2 * 1 + 0) * 2048 + r.val = c.val / 2 * 2048 + r.val
    have h : c.val < 4 := c.isLt
    omega
  · show (c.val / 1 % 2 * 1 + 0) * 1024 + l.val = c.val % 2 * 1024 + l.val
    omega

set_option backward.proofsInPublic true in
/-- If every device holds its part of `x`, then each device's result is its part of the sums of the rows of `x`. -/
theorem out_eq (x : Cert.ReferenceIdeal.S4096x2048.Idx → Elt Ideal .bf16)
    (h : ∀ c : Dev nD, m ((c : Thread nD τ).loc main_arg0)
      = Layout.blockN ⟨2, ![2048, 1024]⟩ ⟨2, ![4096, 2048]⟩ (Layout.meshBlock [2, 2] ![[0], [1]] c) x) (c : Dev nD) :
    outAt m ρ c = Layout.blockN ⟨2, ![16, 128]⟩ ⟨2, ![32, 128]⟩ (Layout.meshBlock [2, 2] ![[0], []] c) (wholeSums x) := by
  funext i
  idx_vars i
  have hc : c.val < 4 := c.isLt
  have hrow : (peer c).val / 2 = c.val / 2 := by show (2 * (c.val / 2) + (1 - c.val % 2)) / 2 = _; omega
  have hcol : c.val % 2 + (peer c).val % 2 = 1 := by show c.val % 2 + (2 * (c.val / 2) + (1 - c.val % 2)) % 2 = 1; omega
  have hsum (d : Dev nD) (hd : d.val / 2 = c.val / 2) (r : Fin 2048) : rowSum m d r
      = ∑ l : Fin 1024, x (ix2 ⟨c.val / 2 * 2048 + r.val, by omega⟩ ⟨d.val % 2 * 1024 + l.val, by omega⟩) := by
    refine Finset.sum_congr rfl fun l _ => ((congrFun (h d) (ix2 r l)).trans (held_apply x d r l)).trans ?_
    simp only [hd]
  rw [out_apply, Layout.blockN_apply, hsum c rfl, hsum (peer c) hrow]
  refine (sum_halves (fun l => x (ix2 ⟨c.val / 2 * 2048 + (128 * i0.val + i1.val), by omega⟩ l)) _ _ hcol).trans ?_
  refine Finset.sum_congr rfl fun l _ => ?_
  refine congrArg (fun r => x (ix2 r l)) (Fin.ext ?_)
  show c.val / 2 * 2048 + (128 * i0.val + i1.val) = 128 * ((c.val / 2 % 2 * 1 + 0) * 16 + i0.val) + (0 * 128 + i1.val)
  omega

end Cert.RowSums

end
-- ==== Proof.lean ====
/-
# The proof of the certificate

The kernel's run (`Proof/Run.lean`) is stated for any float values. Read at bit patterns it is the frame of the kernel,
read at exact numbers the frame of its idealization, whose result `Proof/Value.lean` compares with the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Reference
public import proofs.«01_k».proof.Proof.Value
public import Idealize.ShloMosaic.Lib.Quiescent

@[expose] public section

noncomputable section

namespace Cert.Proof

open Idealize.ShloMosaic Idealize.SL.Sem

/-- On any float values the program ends with its argument unchanged and every counter at zero; -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c (0 : Fin 2)).trans (Cert.RowSums.final_arg m ρ c), h.2⟩)
    (Cert.RowSums.run_main m ρ)

section

open Cert.Kernel.Gen Cert.KernelIdeal.Gen

variable {F : FTy → Type} [FloatOps F]

/-- The two programs have one body, -/
theorem one_body : Cert.Kernel.defs₀ (F := F) = Cert.KernelIdeal.defs₀ :=
  congrArg Defs.onTc (funext fun l => funext fun x => match l, x with
    | 0, (_, _) => rfl
    | ⟨_ + 1, h⟩, _ => absurd h (Nat.not_lt.2 (Nat.le_add_left _ _)))

/-- so one table of bodies. -/
theorem one_table : Cert.Kernel.defs (F := F) = Cert.KernelIdeal.defs := congrArg (Pipeline.defs Cert.KernelIdeal.pcfgs) one_body

end

/-- On bit patterns the kernel is therefore the same program; -/
theorem kernel_frame : Cert.quiescent_Kernel (hKernel := Cert.Kernel.Gen.facts) := fun m ρ _ => by
  have h := frame_any (F := Bits) m ρ
  rw [← one_table] at h
  exact h

/-- on exact numbers; -/
theorem ideal_frame : Cert.quiescent_KernelIdeal (hKernelIdeal := Cert.KernelIdeal.Gen.facts) := fun m ρ _ => frame_any (F := Ideal) m ρ

/-- and so does the reference, which has no semaphore. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is its part of the reference's result. -/
theorem same_value : Cert.algebraic_KernelIdeal_ReferenceIdeal (hKernelIdeal := Cert.KernelIdeal.Gen.facts)
    (hReferenceIdeal := Cert.ReferenceIdeal.Gen.facts) := fun m ρ m' ρ' _ hparts =>
  ⟨Cert.RowSums.wholeSums (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨((h.1 c (1 : Fin 2)).trans (Cert.RowSums.final_out m ρ c)).trans (Cert.RowSums.out_eq m ρ _ hparts c),
        (h.1 c (0 : Fin 2)).trans (Cert.RowSums.final_arg m ρ c)⟩)
      (Cert.RowSums.run_main (F := Ideal) m ρ),
    (θ_run Cert.ReferenceIdeal.defs _ _).mono (fun _ h => ⟨(h 0).1.trans (Cert.RowSums.reference_eq _), (h 0).2⟩)
      (Cert.ReferenceIdeal.Value.run (F := Ideal) m' ρ')⟩

theorem claim : Cert.Claim :=
  ⟨Cert.Kernel.Gen.facts, Cert.KernelIdeal.Gen.facts, Cert.ReferenceIdeal.Gen.facts,
    kernel_frame, ideal_frame, reference_frame, trivial, same_value⟩

end Cert.Proof

end
